-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S192x1x5248 : Shape := ⟨3, ![192, 1, 5248]⟩
abbrev S5248x2432 : Shape := ⟨2, ![5248, 2432]⟩
abbrev S41x19 : Shape := ⟨2, ![41, 19]⟩
abbrev S_ : Shape := ⟨0, ![]⟩

class Facts : Prop where
  bcast_S_S192x1x5248 : S_.BroadcastsInDim S192x1x5248 (![] : Fin 0 → Fin S192x1x5248.rank)
  reducesTo_S192x1x5248_S_d0_1_2 : S192x1x5248.ReducesTo [0, 1, 2] S_
  h_S_ : 0 < S_.numel

variable [Facts]

def fn {F : FTy → Type} [FloatOps F] (main_arg0 : FVec F S192x1x5248 .bf16) (main_arg1 : FVec F S5248x2432 .fp8e4m3) (main_arg2 : FVec F S41x19 .f32) : IVec S_ 1 :=
  let main_v0 : FVec F S192x1x5248 .bf16 := Host.absf main_arg0
  let main_cst : FVec F S_ .bf16 := constant S_ .bf16 0x7F7F#16
  let main_v1 : FVec F S192x1x5248 .bf16 := broadcastInDim S192x1x5248 ![] bcast_S_S192x1x5248 main_cst
  let main_v2 : IVec S192x1x5248 1 := cmpf .ole main_v0 main_v1
  let main_c : IVec S_ 1 := constantI S_ 1 1#1
  let main_v3 : IVec S_ 1 := (fun x v => Host.reduce IntOp.andi x v reducesTo_S192x1x5248_S_d0_1_2 h_S_) main_v2 main_c
  main_v3
-- ==== Kernel.lean ====
abbrev S192x1x5248 : Shape := ⟨3, ![192, 1, 5248]⟩
abbrev S5248x2432 : Shape := ⟨2, ![5248, 2432]⟩
abbrev S41x19 : Shape := ⟨2, ![41, 19]⟩
abbrev S192x5248 : Shape := ⟨2, ![192, 5248]⟩
abbrev S192x2432 : Shape := ⟨2, ![192, 2432]⟩
abbrev S192x41 : Shape := ⟨2, ![192, 41]⟩
abbrev S5248x256 : Shape := ⟨2, ![5248, 256]⟩
abbrev S192x256 : Shape := ⟨2, ![192, 256]⟩
abbrev S41x192x128 : Shape := ⟨3, ![41, 192, 128]⟩
abbrev S192x128 : Shape := ⟨2, ![192, 128]⟩
abbrev S192 : Shape := ⟨1, ![192]⟩
abbrev S192x1 : Shape := ⟨2, ![192, 1]⟩
abbrev S192x255 : Shape := ⟨2, ![192, 255]⟩
abbrev S1x192x128 : Shape := ⟨3, ![1, 192, 128]⟩
abbrev S128x256 : Shape := ⟨2, ![128, 256]⟩
abbrev S1x1 : Shape := ⟨2, ![1, 1]⟩
abbrev S192x1x2432 : Shape := ⟨3, ![192, 1, 2432]⟩
abbrev S192x1x41 : Shape := ⟨3, ![192, 1, 41]⟩

abbrev nBuf : Space → Nat
  | .hbm => 10
  | .vmem => 8
  | .smem => 1
  | _ => 0

abbrev bufTy : (tb : Table) → Fin (tcTables nBuf tb) → BufTy
  | .hbm, ⟨0, _⟩ => ⟨S192x1x5248, .bf16⟩
  | .hbm, ⟨1, _⟩ => ⟨S5248x2432, .fp8e4m3⟩
  | .hbm, ⟨2, _⟩ => ⟨S41x19, .f32⟩
  | .hbm, ⟨3, _⟩ => ⟨S192x5248, .bf16⟩
  | .hbm, ⟨4, _⟩ => ⟨S192x2432, .bf16⟩
  | .hbm, ⟨5, _⟩ => ⟨S192x5248, .fp8e4m3⟩
  | .hbm, ⟨6, _⟩ => ⟨S192x41, .f32⟩
  | .hbm, ⟨7, _⟩ => ⟨S192x1x2432, .bf16⟩
  | .hbm, ⟨8, _⟩ => ⟨S192x1x5248, .fp8e4m3⟩
  | .hbm, ⟨9, _⟩ => ⟨S192x1x41, .f32⟩
  | .local _ .vmem, ⟨0, _⟩ => ⟨S192x5248, .bf16⟩
  | .local _ .vmem, ⟨1, _⟩ => ⟨S5248x256, .fp8e4m3⟩
  | .local _ .vmem, ⟨2, _⟩ => ⟨S5248x256, .fp8e4m3⟩
  | .local _ .vmem, ⟨3, _⟩ => ⟨S192x256, .bf16⟩
  | .local _ .vmem, ⟨4, _⟩ => ⟨S192x256, .bf16⟩
  | .local _ .vmem, ⟨5, _⟩ => ⟨S192x5248, .fp8e4m3⟩
  | .local _ .vmem, ⟨6, _⟩ => ⟨S192x41, .f32⟩
  | .local _ .vmem, ⟨7, _⟩ => ⟨S41x192x128, .f32⟩
  | .local _ .smem, ⟨0, _⟩ => ⟨S41x19, .f32⟩
  | _, _ => ⟨S192x1x5248, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![10], ![false]⟩

def k0_off1 (i : grid0.Coords) (c0_i32_9 : BitVec 32) : Fin 2 → Nat :=
  let c0_10 : Index := 0#32
  let arg0 : BitVec 32 := BitVec.ofNat 32 (i 0).val
  let c2_i32 : BitVec 32 := 2#32
  let v11 : BitVec 32 := Scalar.muli arg0 c2_i32
  let v12 : BitVec 32 := Scalar.addi v11 c0_i32_9
  let c18_i32 : BitVec 32 := 18#32
  let v13 : BitVec 32 := Scalar.minsi v12 c18_i32
  let v14 : Index := Scalar.indexCast v13
  ![0, v14.toNat]
def k0_off2 (i : grid0.Coords) (c0_i32_21 : BitVec 32) : Fin 2 → Nat :=
  let c1_23 : Index := 1#32
  let arg0 : BitVec 32 := BitVec.ofNat 32 (i 0).val
  let c2_i32_20 : BitVec 32 := 2#32
  let v37 : BitVec 32 := Scalar.muli arg0 c2_i32_20
  let v38 : BitVec 32 := Scalar.addi v37 c0_i32_21
  let c18_i32_22 : BitVec 32 := 18#32
  let v39 : BitVec 32 := Scalar.minsi v38 c18_i32_22
  let v40 : Index := Scalar.indexCast v39
  ![1, v40.toNat]
def k0_off3 (i : grid0.Coords) (c0_i32_35 : BitVec 32) : Fin 2 → Nat :=
  let c2_37 : Index := 2#32
  let arg0 : BitVec 32 := BitVec.ofNat 32 (i 0).val
  let c2_i32_34 : BitVec 32 := 2#32
  let v63 : BitVec 32 := Scalar.muli arg0 c2_i32_34
  let v64 : BitVec 32 := Scalar.addi v63 c0_i32_35
  let c18_i32_36 : BitVec 32 := 18#32
  let v65 : BitVec 32 := Scalar.minsi v64 c18_i32_36
  let v66 : Index := Scalar.indexCast v65
  ![2, v66.toNat]
def k0_off4 (i : grid0.Coords) (c0_i32_49 : BitVec 32) : Fin 2 → Nat :=
  let c3_51 : Index := 3#32
  let arg0 : BitVec 32 := BitVec.ofNat 32 (i 0).val
  let c2_i32_48 : BitVec 32 := 2#32
  let v89 : BitVec 32 := Scalar.muli arg0 c2_i32_48
  let v90 : BitVec 32 := Scalar.addi v89 c0_i32_49
  let c18_i32_50 : BitVec 32 := 18#32
  let v91 : BitVec 32 := Scalar.minsi v90 c18_i32_50
  let v92 : Index := Scalar.indexCast v91
  ![3, v92.toNat]
def k0_off5 (i : grid0.Coords) (c0_i32_63 : BitVec 32) : Fin 2 → Nat :=
  let c4_65 : Index := 4#32
  let arg0 : BitVec 32 := BitVec.ofNat 32 (i 0).val
  let c2_i32_62 : BitVec 32 := 2#32
  let v115 : BitVec 32 := Scalar.muli arg0 c2_i32_62
  let v116 : BitVec 32 := Scalar.addi v115 c0_i32_63
  let c18_i32_64 : BitVec 32 := 18#32
  let v117 : BitVec 32 := Scalar.minsi v116 c18_i32_64
  let v118 : Index := Scalar.indexCast v117
  ![4, v118.toNat]
def k0_off6 (i : grid0.Coords) (c0_i32_77 : BitVec 32) : Fin 2 → Nat :=
  let c5_79 : Index := 5#32
  let arg0 : BitVec 32 := BitVec.ofNat 32 (i 0).val
  let c2_i32_76 : BitVec 32 := 2#32
  let v141 : BitVec 32 := Scalar.muli arg0 c2_i32_76
  let v142 : BitVec 32 := Scalar.addi v141 c0_i32_77
  let c18_i32_78 : BitVec 32 := 18#32
  let v143 : BitVec 32 := Scalar.minsi v142 c18_i32_78
  let v144 : Index := Scalar.indexCast v143
  ![5, v144.toNat]
def k0_off7 (i : grid0.Coords) (c0_i32_91 : BitVec 32) : Fin 2 → Nat :=
  let c6_93 : Index := 6#32
  let arg0 : BitVec 32 := BitVec.ofNat 32 (i 0).val
  let c2_i32_90 : BitVec 32 := 2#32
  let v167 : BitVec 32 := Scalar.muli arg0 c2_i32_90
  let v168 : BitVec 32 := Scalar.addi v167 c0_i32_91
  let c18_i32_92 : BitVec 32 := 18#32
  let v169 : BitVec 32 := Scalar.minsi v168 c18_i32_92
  let v170 : Index := Scalar.indexCast v169
  ![6, v170.toNat]
def k0_off8 (i : grid0.Coords) (c0_i32_105 : BitVec 32) : Fin 2 → Nat :=
  let c7_107 : Index := 7#32
  let arg0 : BitVec 32 := BitVec.ofNat 32 (i 0).val
  let c2_i32_104 : BitVec 32 := 2#32
  let v193 : BitVec 32 := Scalar.muli arg0 c2_i32_104
  let v194 : BitVec 32 := Scalar.addi v193 c0_i32_105
  let c18_i32_106 : BitVec 32 := 18#32
  let v195 : BitVec 32 := Scalar.minsi v194 c18_i32_106
  let v196 : Index := Scalar.indexCast v195
  ![7, v196.toNat]
def k0_off9 (i : grid0.Coords) (c0_i32_119 : BitVec 32) : Fin 2 → Nat :=
  let c8_121 : Index := 8#32
  let arg0 : BitVec 32 := BitVec.ofNat 32 (i 0).val
  let c2_i32_118 : BitVec 32 := 2#32
  let v219 : BitVec 32 := Scalar.muli arg0 c2_i32_118
  let v220 : BitVec 32 := Scalar.addi v219 c0_i32_119
  let c18_i32_120 : BitVec 32 := 18#32
  let v221 : BitVec 32 := Scalar.minsi v220 c18_i32_120
  let v222 : Index := Scalar.indexCast v221
  ![8, v222.toNat]
def k0_off10 (i : grid0.Coords) (c0_i32_133 : BitVec 32) : Fin 2 → Nat :=
  let c9_135 : Index := 9#32
  let arg0 : BitVec 32 := BitVec.ofNat 32 (i 0).val
  let c2_i32_132 : BitVec 32 := 2#32
  let v245 : BitVec 32 := Scalar.muli arg0 c2_i32_132
  let v246 : BitVec 32 := Scalar.addi v245 c0_i32_133
  let c18_i32_134 : BitVec 32 := 18#32
  let v247 : BitVec 32 := Scalar.minsi v246 c18_i32_134
  let v248 : Index := Scalar.indexCast v247
  ![9, v248.toNat]
def k0_off11 (i : grid0.Coords) (c0_i32_147 : BitVec 32) : Fin 2 → Nat :=
  let c10_149 : Index := 10#32
  let arg0 : BitVec 32 := BitVec.ofNat 32 (i 0).val
  let c2_i32_146 : BitVec 32 := 2#32
  let v271 : BitVec 32 := Scalar.muli arg0 c2_i32_146
  let v272 : BitVec 32 := Scalar.addi v271 c0_i32_147
  let c18_i32_148 : BitVec 32 := 18#32
  let v273 : BitVec 32 := Scalar.minsi v272 c18_i32_148
  let v274 : Index := Scalar.indexCast v273
  ![10, v274.toNat]
def k0_off12 (i : grid0.Coords) (c0_i32_161 : BitVec 32) : Fin 2 → Nat :=
  let c11_163 : Index := 11#32
  let arg0 : BitVec 32 := BitVec.ofNat 32 (i 0).val
  let c2_i32_160 : BitVec 32 := 2#32
  let v297 : BitVec 32 := Scalar.muli arg0 c2_i32_160
  let v298 : BitVec 32 := Scalar.addi v297 c0_i32_161
  let c18_i32_162 : BitVec 32 := 18#32
  let v299 : BitVec 32 := Scalar.minsi v298 c18_i32_162
  let v300 : Index := Scalar.indexCast v299
  ![11, v300.toNat]
def k0_off13 (i : grid0.Coords) (c0_i32_175 : BitVec 32) : Fin 2 → Nat :=
  let c12_177 : Index := 12#32
  let arg0 : BitVec 32 := BitVec.ofNat 32 (i 0).val
  let c2_i32_174 : BitVec 32 := 2#32
  let v323 : BitVec 32 := Scalar.muli arg0 c2_i32_174
  let v324 : BitVec 32 := Scalar.addi v323 c0_i32_175
  let c18_i32_176 : BitVec 32 := 18#32
  let v325 : BitVec 32 := Scalar.minsi v324 c18_i32_176
  let v326 : Index := Scalar.indexCast v325
  ![12, v326.toNat]
def k0_off14 (i : grid0.Coords) (c0_i32_189 : BitVec 32) : Fin 2 → Nat :=
  let c13_191 : Index := 13#32
  let arg0 : BitVec 32 := BitVec.ofNat 32 (i 0).val
  let c2_i32_188 : BitVec 32 := 2#32
  let v349 : BitVec 32 := Scalar.muli arg0 c2_i32_188
  let v350 : BitVec 32 := Scalar.addi v349 c0_i32_189
  let c18_i32_190 : BitVec 32 := 18#32
  let v351 : BitVec 32 := Scalar.minsi v350 c18_i32_190
  let v352 : Index := Scalar.indexCast v351
  ![13, v352.toNat]
def k0_off15 (i : grid0.Coords) (c0_i32_203 : BitVec 32) : Fin 2 → Nat :=
  let c14_205 : Index := 14#32
  let arg0 : BitVec 32 := BitVec.ofNat 32 (i 0).val
  let c2_i32_202 : BitVec 32 := 2#32
  let v375 : BitVec 32 := Scalar.muli arg0 c2_i32_202
  let v376 : BitVec 32 := Scalar.addi v375 c0_i32_203
  let c18_i32_204 : BitVec 32 := 18#32
  let v377 : BitVec 32 := Scalar.minsi v376 c18_i32_204
  let v378 : Index := Scalar.indexCast v377
  ![14, v378.toNat]
def k0_off16 (i : grid0.Coords) (c0_i32_217 : BitVec 32) : Fin 2 → Nat :=
  let c15_219 : Index := 15#32
  let arg0 : BitVec 32 := BitVec.ofNat 32 (i 0).val
  let c2_i32_216 : BitVec 32 := 2#32
  let v401 : BitVec 32 := Scalar.muli arg0 c2_i32_216
  let v402 : BitVec 32 := Scalar.addi v401 c0_i32_217
  let c18_i32_218 : BitVec 32 := 18#32
  let v403 : BitVec 32 := Scalar.minsi v402 c18_i32_218
  let v404 : Index := Scalar.indexCast v403
  ![15, v404.toNat]
def k0_off17 (i : grid0.Coords) (c0_i32_231 : BitVec 32) : Fin 2 → Nat :=
  let c16_233 : Index := 16#32
  let arg0 : BitVec 32 := BitVec.ofNat 32 (i 0).val
  let c2_i32_230 : BitVec 32 := 2#32
  let v427 : BitVec 32 := Scalar.muli arg0 c2_i32_230
  let v428 : BitVec 32 := Scalar.addi v427 c0_i32_231
  let c18_i32_232 : BitVec 32 := 18#32
  let v429 : BitVec 32 := Scalar.minsi v428 c18_i32_232
  let v430 : Index := Scalar.indexCast v429
  ![16, v430.toNat]
def k0_off18 (i : grid0.Coords) (c0_i32_245 : BitVec 32) : Fin 2 → Nat :=
  let c17_247 : Index := 17#32
  let arg0 : BitVec 32 := BitVec.ofNat 32 (i 0).val
  let c2_i32_244 : BitVec 32 := 2#32
  let v453 : BitVec 32 := Scalar.muli arg0 c2_i32_244
  let v454 : BitVec 32 := Scalar.addi v453 c0_i32_245
  let c18_i32_246 : BitVec 32 := 18#32
  let v455 : BitVec 32 := Scalar.minsi v454 c18_i32_246
  let v456 : Index := Scalar.indexCast v455
  ![17, v456.toNat]
def k0_off19 (i : grid0.Coords) (c0_i32_259 : BitVec 32) : Fin 2 → Nat :=
  let c18_261 : Index := 18#32
  let arg0 : BitVec 32 := BitVec.ofNat 32 (i 0).val
  let c2_i32_258 : BitVec 32 := 2#32
  let v479 : BitVec 32 := Scalar.muli arg0 c2_i32_258
  let v480 : BitVec 32 := Scalar.addi v479 c0_i32_259
  let c18_i32_260 : BitVec 32 := 18#32
  let v481 : BitVec 32 := Scalar.minsi v480 c18_i32_260
  let v482 : Index := Scalar.indexCast v481
  ![18, v482.toNat]
def k0_off20 (i : grid0.Coords) (c0_i32_273 : BitVec 32) : Fin 2 → Nat :=
  let c19_275 : Index := 19#32
  let arg0 : BitVec 32 := BitVec.ofNat 32 (i 0).val
  let c2_i32_272 : BitVec 32 := 2#32
  let v505 : BitVec 32 := Scalar.muli arg0 c2_i32_272
  let v506 : BitVec 32 := Scalar.addi v505 c0_i32_273
  let c18_i32_274 : BitVec 32 := 18#32
  let v507 : BitVec 32 := Scalar.minsi v506 c18_i32_274
  let v508 : Index := Scalar.indexCast v507
  ![19, v508.toNat]
def k0_off21 (i : grid0.Coords) (c0_i32_287 : BitVec 32) : Fin 2 → Nat :=
  let c20_289 : Index := 20#32
  let arg0 : BitVec 32 := BitVec.ofNat 32 (i 0).val
  let c2_i32_286 : BitVec 32 := 2#32
  let v531 : BitVec 32 := Scalar.muli arg0 c2_i32_286
  let v532 : BitVec 32 := Scalar.addi v531 c0_i32_287
  let c18_i32_288 : BitVec 32 := 18#32
  let v533 : BitVec 32 := Scalar.minsi v532 c18_i32_288
  let v534 : Index := Scalar.indexCast v533
  ![20, v534.toNat]
def k0_off22 (i : grid0.Coords) (c0_i32_301 : BitVec 32) : Fin 2 → Nat :=
  let c21_303 : Index := 21#32
  let arg0 : BitVec 32 := BitVec.ofNat 32 (i 0).val
  let c2_i32_300 : BitVec 32 := 2#32
  let v557 : BitVec 32 := Scalar.muli arg0 c2_i32_300
  let v558 : BitVec 32 := Scalar.addi v557 c0_i32_301
  let c18_i32_302 : BitVec 32 := 18#32
  let v559 : BitVec 32 := Scalar.minsi v558 c18_i32_302
  let v560 : Index := Scalar.indexCast v559
  ![21, v560.toNat]
def k0_off23 (i : grid0.Coords) (c0_i32_315 : BitVec 32) : Fin 2 → Nat :=
  let c22_317 : Index := 22#32
  let arg0 : BitVec 32 := BitVec.ofNat 32 (i 0).val
  let c2_i32_314 : BitVec 32 := 2#32
  let v583 : BitVec 32 := Scalar.muli arg0 c2_i32_314
  let v584 : BitVec 32 := Scalar.addi v583 c0_i32_315
  let c18_i32_316 : BitVec 32 := 18#32
  let v585 : BitVec 32 := Scalar.minsi v584 c18_i32_316
  let v586 : Index := Scalar.indexCast v585
  ![22, v586.toNat]
def k0_off24 (i : grid0.Coords) (c0_i32_329 : BitVec 32) : Fin 2 → Nat :=
  let c23_331 : Index := 23#32
  let arg0 : BitVec 32 := BitVec.ofNat 32 (i 0).val
  let c2_i32_328 : BitVec 32 := 2#32
  let v609 : BitVec 32 := Scalar.muli arg0 c2_i32_328
  let v610 : BitVec 32 := Scalar.addi v609 c0_i32_329
  let c18_i32_330 : BitVec 32 := 18#32
  let v611 : BitVec 32 := Scalar.minsi v610 c18_i32_330
  let v612 : Index := Scalar.indexCast v611
  ![23, v612.toNat]
def k0_off25 (i : grid0.Coords) (c0_i32_343 : BitVec 32) : Fin 2 → Nat :=
  let c24_345 : Index := 24#32
  let arg0 : BitVec 32 := BitVec.ofNat 32 (i 0).val
  let c2_i32_342 : BitVec 32 := 2#32
  let v635 : BitVec 32 := Scalar.muli arg0 c2_i32_342
  let v636 : BitVec 32 := Scalar.addi v635 c0_i32_343
  let c18_i32_344 : BitVec 32 := 18#32
  let v637 : BitVec 32 := Scalar.minsi v636 c18_i32_344
  let v638 : Index := Scalar.indexCast v637
  ![24, v638.toNat]
def k0_off26 (i : grid0.Coords) (c0_i32_357 : BitVec 32) : Fin 2 → Nat :=
  let c25_359 : Index := 25#32
  let arg0 : BitVec 32 := BitVec.ofNat 32 (i 0).val
  let c2_i32_356 : BitVec 32 := 2#32
  let v661 : BitVec 32 := Scalar.muli arg0 c2_i32_356
  let v662 : BitVec 32 := Scalar.addi v661 c0_i32_357
  let c18_i32_358 : BitVec 32 := 18#32
  let v663 : BitVec 32 := Scalar.minsi v662 c18_i32_358
  let v664 : Index := Scalar.indexCast v663
  ![25, v664.toNat]
def k0_off27 (i : grid0.Coords) (c0_i32_371 : BitVec 32) : Fin 2 → Nat :=
  let c26_373 : Index := 26#32
  let arg0 : BitVec 32 := BitVec.ofNat 32 (i 0).val
  let c2_i32_370 : BitVec 32 := 2#32
  let v687 : BitVec 32 := Scalar.muli arg0 c2_i32_370
  let v688 : BitVec 32 := Scalar.addi v687 c0_i32_371
  let c18_i32_372 : BitVec 32 := 18#32
  let v689 : BitVec 32 := Scalar.minsi v688 c18_i32_372
  let v690 : Index := Scalar.indexCast v689
  ![26, v690.toNat]
def k0_off28 (i : grid0.Coords) (c0_i32_385 : BitVec 32) : Fin 2 → Nat :=
  let c27_387 : Index := 27#32
  let arg0 : BitVec 32 := BitVec.ofNat 32 (i 0).val
  let c2_i32_384 : BitVec 32 := 2#32
  let v713 : BitVec 32 := Scalar.muli arg0 c2_i32_384
  let v714 : BitVec 32 := Scalar.addi v713 c0_i32_385
  let c18_i32_386 : BitVec 32 := 18#32
  let v715 : BitVec 32 := Scalar.minsi v714 c18_i32_386
  let v716 : Index := Scalar.indexCast v715
  ![27, v716.toNat]
def k0_off29 (i : grid0.Coords) (c0_i32_399 : BitVec 32) : Fin 2 → Nat :=
  let c28_401 : Index := 28#32
  let arg0 : BitVec 32 := BitVec.ofNat 32 (i 0).val
  let c2_i32_398 : BitVec 32 := 2#32
  let v739 : BitVec 32 := Scalar.muli arg0 c2_i32_398
  let v740 : BitVec 32 := Scalar.addi v739 c0_i32_399
  let c18_i32_400 : BitVec 32 := 18#32
  let v741 : BitVec 32 := Scalar.minsi v740 c18_i32_400
  let v742 : Index := Scalar.indexCast v741
  ![28, v742.toNat]
def k0_off30 (i : grid0.Coords) (c0_i32_413 : BitVec 32) : Fin 2 → Nat :=
  let c29_415 : Index := 29#32
  let arg0 : BitVec 32 := BitVec.ofNat 32 (i 0).val
  let c2_i32_412 : BitVec 32 := 2#32
  let v765 : BitVec 32 := Scalar.muli arg0 c2_i32_412
  let v766 : BitVec 32 := Scalar.addi v765 c0_i32_413
  let c18_i32_414 : BitVec 32 := 18#32
  let v767 : BitVec 32 := Scalar.minsi v766 c18_i32_414
  let v768 : Index := Scalar.indexCast v767
  ![29, v768.toNat]
def k0_off31 (i : grid0.Coords) (c0_i32_427 : BitVec 32) : Fin 2 → Nat :=
  let c30_429 : Index := 30#32
  let arg0 : BitVec 32 := BitVec.ofNat 32 (i 0).val
  let c2_i32_426 : BitVec 32 := 2#32
  let v791 : BitVec 32 := Scalar.muli arg0 c2_i32_426
  let v792 : BitVec 32 := Scalar.addi v791 c0_i32_427
  let c18_i32_428 : BitVec 32 := 18#32
  let v793 : BitVec 32 := Scalar.minsi v792 c18_i32_428
  let v794 : Index := Scalar.indexCast v793
  ![30, v794.toNat]
def k0_off32 (i : grid0.Coords) (c0_i32_441 : BitVec 32) : Fin 2 → Nat :=
  let c31_443 : Index := 31#32
  let arg0 : BitVec 32 := BitVec.ofNat 32 (i 0).val
  let c2_i32_440 : BitVec 32 := 2#32
  let v817 : BitVec 32 := Scalar.muli arg0 c2_i32_440
  let v818 : BitVec 32 := Scalar.addi v817 c0_i32_441
  let c18_i32_442 : BitVec 32 := 18#32
  let v819 : BitVec 32 := Scalar.minsi v818 c18_i32_442
  let v820 : Index := Scalar.indexCast v819
  ![31, v820.toNat]
def k0_off33 (i : grid0.Coords) (c0_i32_455 : BitVec 32) : Fin 2 → Nat :=
  let c32_457 : Index := 32#32
  let arg0 : BitVec 32 := BitVec.ofNat 32 (i 0).val
  let c2_i32_454 : BitVec 32 := 2#32
  let v843 : BitVec 32 := Scalar.muli arg0 c2_i32_454
  let v844 : BitVec 32 := Scalar.addi v843 c0_i32_455
  let c18_i32_456 : BitVec 32 := 18#32
  let v845 : BitVec 32 := Scalar.minsi v844 c18_i32_456
  let v846 : Index := Scalar.indexCast v845
  ![32, v846.toNat]
def k0_off34 (i : grid0.Coords) (c0_i32_469 : BitVec 32) : Fin 2 → Nat :=
  let c33_471 : Index := 33#32
  let arg0 : BitVec 32 := BitVec.ofNat 32 (i 0).val
  let c2_i32_468 : BitVec 32 := 2#32
  let v869 : BitVec 32 := Scalar.muli arg0 c2_i32_468
  let v870 : BitVec 32 := Scalar.addi v869 c0_i32_469
  let c18_i32_470 : BitVec 32 := 18#32
  let v871 : BitVec 32 := Scalar.minsi v870 c18_i32_470
  let v872 : Index := Scalar.indexCast v871
  ![33, v872.toNat]
def k0_off35 (i : grid0.Coords) (c0_i32_483 : BitVec 32) : Fin 2 → Nat :=
  let c34_485 : Index := 34#32
  let arg0 : BitVec 32 := BitVec.ofNat 32 (i 0).val
  let c2_i32_482 : BitVec 32 := 2#32
  let v895 : BitVec 32 := Scalar.muli arg0 c2_i32_482
  let v896 : BitVec 32 := Scalar.addi v895 c0_i32_483
  let c18_i32_484 : BitVec 32 := 18#32
  let v897 : BitVec 32 := Scalar.minsi v896 c18_i32_484
  let v898 : Index := Scalar.indexCast v897
  ![34, v898.toNat]
def k0_off36 (i : grid0.Coords) (c0_i32_497 : BitVec 32) : Fin 2 → Nat :=
  let c35_499 : Index := 35#32
  let arg0 : BitVec 32 := BitVec.ofNat 32 (i 0).val
  let c2_i32_496 : BitVec 32 := 2#32
  let v921 : BitVec 32 := Scalar.muli arg0 c2_i32_496
  let v922 : BitVec 32 := Scalar.addi v921 c0_i32_497
  let c18_i32_498 : BitVec 32 := 18#32
  let v923 : BitVec 32 := Scalar.minsi v922 c18_i32_498
  let v924 : Index := Scalar.indexCast v923
  ![35, v924.toNat]
def k0_off37 (i : grid0.Coords) (c0_i32_511 : BitVec 32) : Fin 2 → Nat :=
  let c36_513 : Index := 36#32
  let arg0 : BitVec 32 := BitVec.ofNat 32 (i 0).val
  let c2_i32_510 : BitVec 32 := 2#32
  let v947 : BitVec 32 := Scalar.muli arg0 c2_i32_510
  let v948 : BitVec 32 := Scalar.addi v947 c0_i32_511
  let c18_i32_512 : BitVec 32 := 18#32
  let v949 : BitVec 32 := Scalar.minsi v948 c18_i32_512
  let v950 : Index := Scalar.indexCast v949
  ![36, v950.toNat]
def k0_off38 (i : grid0.Coords) (c0_i32_525 : BitVec 32) : Fin 2 → Nat :=
  let c37_527 : Index := 37#32
  let arg0 : BitVec 32 := BitVec.ofNat 32 (i 0).val
  let c2_i32_524 : BitVec 32 := 2#32
  let v973 : BitVec 32 := Scalar.muli arg0 c2_i32_524
  let v974 : BitVec 32 := Scalar.addi v973 c0_i32_525
  let c18_i32_526 : BitVec 32 := 18#32
  let v975 : BitVec 32 := Scalar.minsi v974 c18_i32_526
  let v976 : Index := Scalar.indexCast v975
  ![37, v976.toNat]
def k0_off39 (i : grid0.Coords) (c0_i32_539 : BitVec 32) : Fin 2 → Nat :=
  let c38_541 : Index := 38#32
  let arg0 : BitVec 32 := BitVec.ofNat 32 (i 0).val
  let c2_i32_538 : BitVec 32 := 2#32
  let v999 : BitVec 32 := Scalar.muli arg0 c2_i32_538
  let v1000 : BitVec 32 := Scalar.addi v999 c0_i32_539
  let c18_i32_540 : BitVec 32 := 18#32
  let v1001 : BitVec 32 := Scalar.minsi v1000 c18_i32_540
  let v1002 : Index := Scalar.indexCast v1001
  ![38, v1002.toNat]
def k0_off40 (i : grid0.Coords) (c0_i32_553 : BitVec 32) : Fin 2 → Nat :=
  let c39_555 : Index := 39#32
  let arg0 : BitVec 32 := BitVec.ofNat 32 (i 0).val
  let c2_i32_552 : BitVec 32 := 2#32
  let v1025 : BitVec 32 := Scalar.muli arg0 c2_i32_552
  let v1026 : BitVec 32 := Scalar.addi v1025 c0_i32_553
  let c18_i32_554 : BitVec 32 := 18#32
  let v1027 : BitVec 32 := Scalar.minsi v1026 c18_i32_554
  let v1028 : Index := Scalar.indexCast v1027
  ![39, v1028.toNat]
def k0_off41 (i : grid0.Coords) (c0_i32_567 : BitVec 32) : Fin 2 → Nat :=
  let c40_569 : Index := 40#32
  let arg0 : BitVec 32 := BitVec.ofNat 32 (i 0).val
  let c2_i32_566 : BitVec 32 := 2#32
  let v1051 : BitVec 32 := Scalar.muli arg0 c2_i32_566
  let v1052 : BitVec 32 := Scalar.addi v1051 c0_i32_567
  let c18_i32_568 : BitVec 32 := 18#32
  let v1053 : BitVec 32 := Scalar.minsi v1052 c18_i32_568
  let v1054 : Index := Scalar.indexCast v1053
  ![40, v1054.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x5248 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5248x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S41x19 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x5248 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x41 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S192x1x5248 : Shape := ⟨3, ![192, 1, 5248]⟩
abbrev S5248x2432 : Shape := ⟨2, ![5248, 2432]⟩
abbrev S41x19 : Shape := ⟨2, ![41, 19]⟩
abbrev S192x41x128 : Shape := ⟨3, ![192, 41, 128]⟩
abbrev S41x192x128 : Shape := ⟨3, ![41, 192, 128]⟩
abbrev S41x128x2432 : Shape := ⟨3, ![41, 128, 2432]⟩
abbrev S41x19x128 : Shape := ⟨3, ![41, 19, 128]⟩
abbrev S41x2432 : Shape := ⟨2, ![41, 2432]⟩
abbrev S192x2432 : Shape := ⟨2, ![192, 2432]⟩
abbrev S41x192 : Shape := ⟨2, ![41, 192]⟩
abbrev S41x192x1 : Shape := ⟨3, ![41, 192, 1]⟩
abbrev S41x192x2432 : Shape := ⟨3, ![41, 192, 2432]⟩
abbrev S41x1x2432 : Shape := ⟨3, ![41, 1, 2432]⟩
abbrev S192x1x2432 : Shape := ⟨3, ![192, 1, 2432]⟩
abbrev S192x41 : Shape := ⟨2, ![192, 41]⟩
abbrev S192x1x41 : Shape := ⟨3, ![192, 1, 41]⟩

abbrev nBuf : Space → Nat
  | .hbm => 16
  | .vmem => 6
  | .smem => 0
  | _ => 0

abbrev bufTy : (tb : Table) → Fin (tcTables nBuf tb) → BufTy
  | .hbm, ⟨0, _⟩ => ⟨S192x1x5248, .bf16⟩
  | .hbm, ⟨1, _⟩ => ⟨S5248x2432, .fp8e4m3⟩
  | .hbm, ⟨2, _⟩ => ⟨S41x19, .f32⟩
  | .hbm, ⟨3, _⟩ => ⟨S192x41x128, .bf16⟩
  | .hbm, ⟨4, _⟩ => ⟨S41x192x128, .bf16⟩
  | .hbm, ⟨5, _⟩ => ⟨S41x128x2432, .fp8e4m3⟩
  | .hbm, ⟨6, _⟩ => ⟨S41x19x128, .f32⟩
  | .hbm, ⟨7, _⟩ => ⟨S41x2432, .f32⟩
  | .hbm, ⟨8, _⟩ => ⟨S192x2432, .bf16⟩
  | .hbm, ⟨9, _⟩ => ⟨S41x192x128, .fp8e4m3⟩
  | .hbm, ⟨10, _⟩ => ⟨S41x192, .f32⟩
  | .hbm, ⟨11, _⟩ => ⟨S192x1x2432, .bf16⟩
  | .hbm, ⟨12, _⟩ => ⟨S192x41x128, .fp8e4m3⟩
  | .hbm, ⟨13, _⟩ => ⟨S192x1x5248, .fp8e4m3⟩
  | .hbm, ⟨14, _⟩ => ⟨S192x41, .f32⟩
  | .hbm, ⟨15, _⟩ => ⟨S192x1x41, .f32⟩
  | .local _ .vmem, ⟨0, _⟩ => ⟨S41x192x128, .bf16⟩
  | .local _ .vmem, ⟨1, _⟩ => ⟨S41x128x2432, .fp8e4m3⟩
  | .local _ .vmem, ⟨2, _⟩ => ⟨S41x2432, .f32⟩
  | .local _ .vmem, ⟨3, _⟩ => ⟨S192x2432, .bf16⟩
  | .local _ .vmem, ⟨4, _⟩ => ⟨S41x192x128, .fp8e4m3⟩
  | .local _ .vmem, ⟨5, _⟩ => ⟨S41x192, .f32⟩
  | _, _ => ⟨S192x1x5248, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S41x192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S41x128x2432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S41x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S41x192x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S41x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/-
  The kernel's body written once as a program over its 41 groups, instead of the printed sequence of 86 parts:
  `quantStep g` is what the first grid point does for one group (load the group's columns of `x`, store their codes
  and their scale), `accStep g` what every grid point does for one group (one 128-deep product, scaled and added to
  the two accumulators). The two programs of this certificate print the same body, so everything here is stated for
  any signature and any floats.
-/
module

public import proofs.«01_k».proof.Proof.Gen.KernelIdeal

@[expose] public section

noncomputable section

namespace Cert.Body

open Idealize.ShloMosaic Idealize.SL.Sem
open Cert.KernelIdeal Cert.KernelIdeal.Facts Cert.KernelIdeal.Facts₀

variable {F : FTy → Type} [FloatOps F]

/-! ## What the body computes for one group -/

/-- A group's columns of `x`, as f32. -/
def wideX (v : Vec F S192x128 .bf16) : FVec F S192x128 .f32 :=
  extf .f32 (shapeCast S192x128 v shapeCasts_S192x128_S192x128) bitsLt_bf16_f32

/-- The largest magnitude of each row of the group, times `1 / 448`. -/
def amaxV (v : Vec F S192x128 .bf16) : FVec F S192x1 .f32 :=
  mulf (shapeCast S192x1 (multiReduction .maximumf [1] S192 (absf (wideX v)) 0xFF800000#32 reduces_S192x128_S192 (.inl rfl) rfl)
    shapeCasts_S192_S192x1) (broadcast S192x1 (Scalar.ofBits .f32 0x3B124925#32))

/-- The floats whose words are `1 << 23, …, 255 << 23`, one per lane. -/
def powers : FVec F S192x255 .f32 :=
  bitcastToFloat .f32 (shli (addi (iota .tc S192x255 32 [1] iota_S192x255_d1_w32) (broadcast S192x255 1#32)) (broadcast S192x255 23#32))

/-- The exponent field: how many of `powers` are at most the value. -/
def field (v : Vec F S192x128 .bf16) : IVec S192x1 32 :=
  shapeCast S192x1 (multiReductionI .add [1] S192
    (select (cmpf .oge (broadcastTo S192x255 (amaxV v) broadcasts_S192x1_S192x255) powers)
      (broadcast S192x255 1#32) (broadcast S192x255 0#32)) 0#32 reduces_S192x255_S192 rfl) shapeCasts_S192_S192x1

/-- Whether the exponent field is neither 0 nor 255. -/
def normal (v : Vec F S192x128 .bf16) : IVec S192x1 1 :=
  andi (cmpi .ne (field v) (broadcast S192x1 0#32)) (cmpi .ne (field v) (broadcast S192x1 255#32))

/-- The group's scale, one per row. -/
def scaleOf (v : Vec F S192x128 .bf16) : FVec F S192x1 .f32 :=
  bitcastToFloat .f32 (select (normal v) (shli (addi (field v) (broadcast S192x1 1#32)) (broadcast S192x1 23#32))
    (broadcast S192x1 1065353216#32))

/-- The reciprocal of the group's scale, one per row. -/
def invOf (v : Vec F S192x128 .bf16) : FVec F S192x1 .f32 :=
  bitcastToFloat .f32 (select (normal v) (shli (subi (broadcast S192x1 253#32) (field v)) (broadcast S192x1 23#32))
    (broadcast S192x1 1065353216#32))

/-- The group's codes. -/
def codesOf (v : Vec F S192x128 .bf16) : FVec F S192x128 .fp8e4m3 :=
  truncf .fp8e4m3 (minimumf (broadcast S192x128 (Scalar.ofBits .f32 0x43E00000#32))
    (maximumf (broadcast S192x128 (Scalar.ofBits .f32 0xC3E00000#32))
      (mulf (wideX v) (broadcastTo S192x128 (invOf v) broadcasts_S192x1_S192x128)))) bitsLt_fp8e4m3_f32

/-- The group's scale on every lane. -/
def wideScale (v : Vec F S192x128 .bf16) : FVec F S192x128 .f32 :=
  broadcastTo S192x128 (shapeCast S192x1 (scaleOf v) shapeCasts_S192x1_S192x1) broadcasts_S192x1_S192x128

/-- The scales of the groups so far, one per lane, with lane `g` set to this group's. -/
def packStep (g : Fin 41) (v : Vec F S192x128 .bf16) (packed : FVec F S192x128 .f32) : FVec F S192x128 .f32 :=
  select (cmpi .eq (iota .tc S192x128 32 [1] iota_S192x128_d1_w32) (broadcast S192x128 (BitVec.ofNat 32 g.val))) (wideScale v) packed

/-- The scales packed so far, at the start. -/
def packed0 : FVec F S192x128 .f32 := broadcast S192x128 (Scalar.ofBits .f32 0x00000000#32)

/-- The accumulator of one half of the block after a group: half `h`'s columns of the product, times the two scales, added. -/
def accHalf (off : Fin 2 → Nat) (hs : S192x256.Slices off S192x128) (xc : Vec F S192x128 .fp8e4m3) (w : Vec F S128x256 .fp8e4m3)
    (xs : Vec F S1x192x128 .f32) (ws : Elt F .f32) (acc : FVec F S192x128 .f32) : FVec F S192x128 .f32 :=
  addf acc (mulf (mulf (extractStridedSlice S192x128 off
      (matmul dot_S192x128_S128x256_S192x256_1_0_0_1_n_n none (shapeCast S192x128 xc shapeCasts_S192x128_S192x128) w
        (constant S192x256 .f32 0x00000000#32)) hs)
    (shapeCast S192x128 xs shapeCasts_S1x192x128_S192x128)) (broadcast S192x128 ws))

/-! ## The accesses -/

/-- The offsets of group `g`'s 128 columns, of its 128 rows of the weights' block, of its plane of the wide scales. -/
abbrev colOff (g : Fin 41) : Fin 2 → Nat := ![0, 128 * g.val]
abbrev rowOff (g : Fin 41) : Fin 2 → Nat := ![128 * g.val, 0]
abbrev planeOff (g : Fin 41) : Fin 3 → Nat := ![g.val, 0, 0]

theorem col_inb (g : Fin 41) : ∀ a, colOff g a + S192x128.size a ≤ S192x5248.size a := fun a => by
  have := g.isLt; fin_cases a <;> simp [colOff, S192x128, S192x5248] <;> omega
theorem row_inb (g : Fin 41) : ∀ a, rowOff g a + S128x256.size a ≤ S5248x256.size a := fun a => by
  have := g.isLt; fin_cases a <;> simp [rowOff, S128x256, S5248x256] <;> omega
theorem plane_inb (g : Fin 41) : ∀ a, planeOff g a + S1x192x128.size a ≤ S41x192x128.size a := fun a => by
  have := g.isLt; fin_cases a <;> simp [planeOff, S1x192x128, S41x192x128] <;> omega

/-- The offsets of the weights' scale read by group `g` and half `h` at grid point `i`: row `g`, column `2 i + h`, at most 18. -/
abbrev wsOff (g : Fin 41) (i : grid0.Coords) (h : BitVec 32) : Fin 2 → Nat :=
  ![g.val, (Scalar.indexCast (Scalar.minsi (Scalar.addi (Scalar.muli (BitVec.ofNat 32 (i 0).val) 2#32) h) 18#32)).toNat]

theorem col_packed : ∀ g : Fin 41,
    (Rect.unit (s := S192x5248) (colOff g) S192x128.size (col_inb g)).PackedRows (EltTy.packing .fp8e4m3) := by
  decide +kernel
theorem ws_inb : ∀ (g : Fin 41) (i : grid0.Coords) (h : Fin 2), ∀ a,
    wsOff g i (BitVec.ofNat 32 h.val) a + S1x1.size a ≤ S41x19.size a := by
  decide +kernel

abbrev colRect (g : Fin 41) : Rect S192x5248 := Rect.unit (s := S192x5248) (colOff g) S192x128.size (col_inb g)
abbrev rowRect (g : Fin 41) : Rect S5248x256 := Rect.unit (s := S5248x256) (rowOff g) S128x256.size (row_inb g)
abbrev planeRect (g : Fin 41) : Rect S41x192x128 := Rect.unit (s := S41x192x128) (planeOff g) S1x192x128.size (plane_inb g)
abbrev wsRect (g : Fin 41) (i : grid0.Coords) (h : Fin 2) : Rect S41x19 :=
  Rect.unit (s := S41x19) (wsOff g i (BitVec.ofNat 32 h.val)) S1x1.size (ws_inb g i h)

/-! ## The body -/

variable {nD : Nat} {τ : Topo} {sig : RefSig} {Λ : Labels}

/-- All groups but the last, in order. -/
def groups40 : List (Fin 41) :=
  [0, 1, 2, 3, 4, 5, 6, 7, 8, 9, 10, 11, 12, 13, 14, 15, 16, 17, 18, 19, 20, 21, 22, 23, 24, 25, 26, 27, 28, 29, 30, 31, 32,
    33, 34, 35, 36, 37, 38, 39]

/-- The 41 groups in order. -/
def groups : List (Fin 41) := groups40 ++ [40]

/-- Quantise one group: its codes and its wide scale stored, its scale packed. -/
def quantStep (arg1 : Memref sig .tc .vmem S192x5248 .bf16) (arg5 : Memref sig .tc .vmem S192x5248 .fp8e4m3) (harg5 : arg5.IsWhole)
    (arg7 : Memref sig .tc .vmem S41x192x128 .f32) (g : Fin 41) (packed : FVec F S192x128 .f32) :
    Prog (TpuEff nD τ sig (Elt F) Λ .tc) (FVec F S192x128 .f32) := do
  let v : Vec F S192x128 .bf16 ← Prog.lift (.load arg1 (colRect g).toLoadRect (View.loadsAt_vmem h_S192x128))
  let _ : Vec F S192x128 .fp8e4m3 ← Prog.lift (.load arg5 (colRect g).toLoadRect (View.loadsAt_vmem h_S192x128))
  Prog.lift (.store arg5 (colRect g) (codesOf v) Finset.univ
    (View.stores_vmem h_S192x128 (harg5.storeExact_slice rfl _ (col_packed g)) (fun _ => rfl)) (.inl rfl))
  let _ : Vec F S1x192x128 .f32 ← Prog.lift (.load arg7 (planeRect g).toLoadRect (View.loadsAt_vmem h_S1x192x128))
  Prog.lift (.store arg7 (planeRect g) (shapeCast S1x192x128 (wideScale v) shapeCasts_S192x128_S1x192x128) Finset.univ
    (View.stores_vmem_bits_univ h_S1x192x128 rfl) (.inl rfl))
  pure (packStep g v packed)

/-- Quantise a list of groups, packing their scales. -/
def quantLoop (arg1 : Memref sig .tc .vmem S192x5248 .bf16) (arg5 : Memref sig .tc .vmem S192x5248 .fp8e4m3) (harg5 : arg5.IsWhole)
    (arg7 : Memref sig .tc .vmem S41x192x128 .f32) : List (Fin 41) → FVec F S192x128 .f32 →
    Prog (TpuEff nD τ sig (Elt F) Λ .tc) (FVec F S192x128 .f32)
  | [], packed => pure packed
  | g :: gs, packed => do
    let packed ← quantStep arg1 arg5 harg5 arg7 g packed
    quantLoop arg1 arg5 harg5 arg7 gs packed

/-- One group's product, scaled and added to the two accumulators. -/
def accStep (i : grid0.Coords) (arg2 : Memref sig .tc .vmem S5248x256 .fp8e4m3) (arg3 : Memref sig .tc .smem S41x19 .f32)
    (arg5 : Memref sig .tc .vmem S192x5248 .fp8e4m3) (arg7 : Memref sig .tc .vmem S41x192x128 .f32) (g : Fin 41)
    (acc : FVec F S192x128 .f32 × FVec F S192x128 .f32) :
    Prog (TpuEff nD τ sig (Elt F) Λ .tc) (FVec F S192x128 .f32 × FVec F S192x128 .f32) := do
  let xc : Vec F S192x128 .fp8e4m3 ← Prog.lift (.load arg5 (colRect g).toLoadRect (View.loadsAt_vmem h_S192x128))
  let w : Vec F S128x256 .fp8e4m3 ← Prog.lift (.load arg2 (rowRect g).toLoadRect (View.loadsAt_vmem h_S128x256))
  let xs : Vec F S1x192x128 .f32 ← Prog.lift (.load arg7 (planeRect g).toLoadRect (View.loadsAt_vmem h_S1x192x128))
  let ws0 : Elt F .f32 ← smemLoad arg3 (wsRect g i 0) numel1_S1x1 rfl
  let ws1 : Elt F .f32 ← smemLoad arg3 (wsRect g i 1) numel1_S1x1 rfl
  pure (accHalf ![0, 0] slices_S192x256_o0_0_S192x128 xc w xs ws0 acc.1, accHalf ![0, 128] slices_S192x256_o0_128_S192x128 xc w xs ws1 acc.2)

/-- The groups' products of a list, accumulated. -/
def accLoop (i : grid0.Coords) (arg2 : Memref sig .tc .vmem S5248x256 .fp8e4m3) (arg3 : Memref sig .tc .smem S41x19 .f32)
    (arg5 : Memref sig .tc .vmem S192x5248 .fp8e4m3) (arg7 : Memref sig .tc .vmem S41x192x128 .f32) : List (Fin 41) →
    FVec F S192x128 .f32 × FVec F S192x128 .f32 →
    Prog (TpuEff nD τ sig (Elt F) Λ .tc) (FVec F S192x128 .f32 × FVec F S192x128 .f32)
  | [], acc => pure acc
  | g :: gs, acc => do
    let acc ← accStep i arg2 arg3 arg5 arg7 g acc
    accLoop i arg2 arg3 arg5 arg7 gs acc

/-- The first grid point's part: every group quantised, the packed scales stored. -/
def quantAll (arg1 : Memref sig .tc .vmem S192x5248 .bf16) (arg5 : Memref sig .tc .vmem S192x5248 .fp8e4m3) (harg5 : arg5.IsWhole)
    (arg6 : Memref sig .tc .vmem S192x41 .f32) (arg7 : Memref sig .tc .vmem S41x192x128 .f32) :
    Prog (TpuEff nD τ sig (Elt F) Λ .tc) PUnit := do
  let packed ← quantLoop arg1 arg5 harg5 arg7 groups packed0
  let _ : Vec F S192x41 .f32 ← Prog.lift (.load arg6 (Rect.unit (s := S192x41) ![0, 0] S192x41.size inb_S192x41_S192x41_0_0).toLoadRect (View.loadsAt_vmem h_S192x41))
  Prog.lift (.store arg6 (Rect.unit (s := S192x41) ![0, 0] S192x41.size inb_S192x41_S192x41_0_0)
    (extractStridedSlice S192x41 ![0, 0] packed slices_S192x128_o0_0_S192x41) Finset.univ (View.stores_vmem_bits_univ h_S192x41 rfl) (.inl rfl))
  pure ⟨⟩

/-- Every grid point's part: the two accumulators over the groups, cast to the block's two halves. -/
def accAll (i : grid0.Coords) (arg2 : Memref sig .tc .vmem S5248x256 .fp8e4m3) (arg3 : Memref sig .tc .smem S41x19 .f32)
    (arg4 : Memref sig .tc .vmem S192x256 .bf16) (harg4 : arg4.IsWhole)
    (arg5 : Memref sig .tc .vmem S192x5248 .fp8e4m3) (arg7 : Memref sig .tc .vmem S41x192x128 .f32) :
    Prog (TpuEff nD τ sig (Elt F) Λ .tc) PUnit := do
  let acc ← accLoop i arg2 arg3 arg5 arg7 groups (packed0, packed0)
  let _ : Vec F S192x128 .bf16 ← Prog.lift (.load arg4 (Rect.unit (s := S192x256) ![0, 0] S192x128.size inb_S192x256_S192x128_0_0).toLoadRect (View.loadsAt_vmem h_S192x128))
  Prog.lift (.store arg4 (Rect.unit (s := S192x256) ![0, 0] S192x128.size inb_S192x256_S192x128_0_0) (truncf .bf16 acc.1 bitsLt_bf16_f32) Finset.univ
    (View.stores_vmem h_S192x128 (harg4.storeExact_slice rfl _ packedbf16_S192x256_S192x128_0_0) (fun _ => rfl)) (.inl rfl))
  let _ : Vec F S192x128 .bf16 ← Prog.lift (.load arg4 (Rect.unit (s := S192x256) ![0, 128] S192x128.size inb_S192x256_S192x128_0_128).toLoadRect (View.loadsAt_vmem h_S192x128))
  Prog.lift (.store arg4 (Rect.unit (s := S192x256) ![0, 128] S192x128.size inb_S192x256_S192x128_0_128) (truncf .bf16 acc.2 bitsLt_bf16_f32) Finset.univ
    (View.stores_vmem h_S192x128 (harg4.storeExact_slice rfl _ packedbf16_S192x256_S192x128_0_128) (fun _ => rfl)) (.inl rfl))
  pure ⟨⟩

/-- The whole body. -/
def body (i : grid0.Coords) (arg1 : Memref sig .tc .vmem S192x5248 .bf16) (arg2 : Memref sig .tc .vmem S5248x256 .fp8e4m3)
    (arg3 : Memref sig .tc .smem S41x19 .f32) (arg4 : Memref sig .tc .vmem S192x256 .bf16) (harg4 : arg4.IsWhole)
    (arg5 : Memref sig .tc .vmem S192x5248 .fp8e4m3) (harg5 : arg5.IsWhole) (arg6 : Memref sig .tc .vmem S192x41 .f32)
    (arg7 : Memref sig .tc .vmem S41x192x128 .f32) : Prog (TpuEff nD τ sig (Elt F) Λ .tc) PUnit := do
  if _h : k0_cond1 i = 1#1 then quantAll arg1 arg5 harg5 arg6 arg7 else pure ⟨⟩
  accAll i arg2 arg3 arg4 harg4 arg5 arg7

end Cert.Body

end
-- ==== Proof.Wp.lean ====
/-
  What the body's two loops do to the buffers they are given, for any signature and any floats: a load reads the
  rectangle of the contents, a store overlays it, and the loops fold these over the groups. The results are left as
  folds (`quantCodes`, `quantPlanes`, `quantPacked`, `accFold`); `Folds.lean` reads them off.
-/
module

public import proofs.«01_k».proof.Proof.Body
public import Idealize.ShloMosaic.Lib.Pipeline.FrameBody
public import Idealize.ShloMosaic.Lib.Tactic

@[expose] public section

noncomputable section

namespace Cert.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (ld)
open Cert.KernelIdeal Cert.KernelIdeal.Facts Cert.KernelIdeal.Facts₀

/-! ## One load, one store -/

section Access

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ)
  (bd : Option 𝒱.V) (E : Set Name) {s : Shape} {e : EltTy} {α : Type} {Q : α → sProp (MT nD τ sig Ix Val Name U Lvl)}

/-- A load through a rectangle of a memref held at contents `X` continues with the rectangle of `X`. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (ld X r)) Q)
        -∗ wp frame (wpE defs 𝒱 c bd) E (.op (.load m r.toLoadRect hl) k) Q) := by
  unfold owns
  iintro ⟨%f, %hf, H⟩ Hk
  iapply (wp_load 𝒱 c bd E (m := m) (r := r.toLoadRect) (hl := hl) (S := m.view.set)
    (View.setOn_subset_set m.view _)) $$ H
  iintro H
  subst hf
  iapply Hk
  iexists f; isplitr; · ipureintro; rfl
  iexact H

/-- A whole store through a rectangle of a memref held at contents `X` leaves `X` overlaid there by what is stored. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  have hread : m.view.read Val ((m.access r).write Val f w Finset.univ) = r.overlay X w := by
    funext j
    subst hf
    by_cases hj : j ∈ r.set
    · obtain ⟨i, rfl⟩ := r.exists_idx_of_mem hj
      change m.view.read Val _ (r.emb i) = r.overlay _ w (r.emb i)
      rw [Rect.overlay_emb]
      exact congrFun (View.read_write_univ (v := m.access r) f w) i
    · rw [Rect.overlay_of_not_mem _ _ _ hj, View.read_apply, View.read_apply]
      refine congrArg _ (View.write_of_not_mem _ _ _ ?_)
      rw [View.setOn_univ]
      show m.view.emb j ∉ (m.view.slice r).set
      rw [View.set_slice]
      intro h
      exact hj (by simpa using (Finset.mem_map' m.view.emb).mp h)
  iapply (wp_store 𝒱 c bd E (m := m) (r := r) (w := w) (hx := hx) (hm := hm) (S := m.view.set)
    (by rw [View.setOn_univ]; exact m.view.set_slice_subset r)) $$ H
  iintro H
  iapply Hk
  iexists _; isplitr; · ipureintro; exact hread
  iexact H

end Access

/-! ## The two loops -/

section Loops

variable {F : FTy → Type} [FloatOps F]

/-- The codes' buffer after the groups of a list. -/
def quantCodes (X : S192x5248.Idx → Elt F .bf16) (gs : List (Fin 41)) (Y : S192x5248.Idx → Elt F .fp8e4m3) : S192x5248.Idx → Elt F .fp8e4m3 :=
  gs.foldl (fun Y g => (colRect g).overlay Y (codesOf (ld X (colRect g)))) Y

/-- The wide scales' buffer after the groups of a list. -/
def quantPlanes (X : S192x5248.Idx → Elt F .bf16) (gs : List (Fin 41)) (Z : S41x192x128.Idx → Elt F .f32) : S41x192x128.Idx → Elt F .f32 :=
  gs.foldl (fun Z g => (planeRect g).overlay Z (shapeCast S1x192x128 (wideScale (ld X (colRect g))) shapeCasts_S192x128_S1x192x128)) Z

/-- The packed scales after the groups of a list. -/
def quantPacked (X : S192x5248.Idx → Elt F .bf16) (gs : List (Fin 41)) (packed : FVec F S192x128 .f32) : FVec F S192x128 .f32 :=
  gs.foldl (fun packed g => packStep g (ld X (colRect g)) packed) packed

/-- The two accumulators after one group. -/
def accNext (i : grid0.Coords) (W : S5248x256.Idx → Elt F .fp8e4m3) (S : S41x19.Idx → Elt F .f32) (Y : S192x5248.Idx → Elt F .fp8e4m3)
    (Z : S41x192x128.Idx → Elt F .f32) (g : Fin 41) (acc : FVec F S192x128 .f32 × FVec F S192x128 .f32) :
    FVec F S192x128 .f32 × FVec F S192x128 .f32 :=
  (accHalf ![0, 0] slices_S192x256_o0_0_S192x128 (ld Y (colRect g)) (ld W (rowRect g)) (ld Z (planeRect g))
      (ld S (wsRect g i 0) (Shape.Idx.first (numel1_S1x1.symm ▸ Nat.one_pos))) acc.1,
    accHalf ![0, 128] slices_S192x256_o0_128_S192x128 (ld Y (colRect g)) (ld W (rowRect g)) (ld Z (planeRect g))
      (ld S (wsRect g i 1) (Shape.Idx.first (numel1_S1x1.symm ▸ Nat.one_pos))) acc.2)

/-- The two accumulators after the groups of a list. -/
def accFold (i : grid0.Coords) (W : S5248x256.Idx → Elt F .fp8e4m3) (S : S41x19.Idx → Elt F .f32) (Y : S192x5248.Idx → Elt F .fp8e4m3)
    (Z : S41x192x128.Idx → Elt F .f32) (gs : List (Fin 41)) (acc : FVec F S192x128 .f32 × FVec F S192x128 .f32) :
    FVec F S192x128 .f32 × FVec F S192x128 .f32 :=
  gs.foldl (fun acc g => accNext i W S Y Z g acc) acc

/-- The result's block: the accumulators cast, one in each half. -/
def outBlock (acc : FVec F S192x128 .f32 × FVec F S192x128 .f32) (O : S192x256.Idx → Elt F .bf16) : S192x256.Idx → Elt F .bf16 :=
  (Rect.unit (s := S192x256) ![0, 128] S192x128.size inb_S192x256_S192x128_0_128).overlay
    ((Rect.unit (s := S192x256) ![0, 0] S192x128.size inb_S192x256_S192x128_0_0).overlay O (truncf .bf16 acc.1 bitsLt_bf16_f32))
    (truncf .bf16 acc.2 bitsLt_bf16_f32)

/-- The packed scales' block: the first 41 lanes. -/
def scalesBlock (packed : FVec F S192x128 .f32) (P : S192x41.Idx → Elt F .f32) : S192x41.Idx → Elt F .f32 :=
  (Rect.unit (s := S192x41) ![0, 0] S192x41.size inb_S192x41_S192x41_0_0).overlay P
    (extractStridedSlice S192x41 ![0, 0] packed slices_S192x128_o0_0_S192x41)

variable {nD : Nat} {τ : Topo} {sig : RefSig} {Ix : Type} [DecidableEq Ix] {Name : Type} [DecidableEq Name]
variable {U : Type} [URA U] {Lvl : Type} {Λ : Labels}
variable [Preorder Lvl] {defs : Defs nD τ sig (Elt F) Λ} (𝒱 : Variants) (c : Dev nD) (bd : Option 𝒱.V) (E : Set Name)

local notation "𝕄" => MT nD τ sig Ix (Elt F) Name U Lvl

variable (arg1 : Memref sig .tc .vmem S192x5248 .bf16) (arg2 : Memref sig .tc .vmem S5248x256 .fp8e4m3)
  (arg3 : Memref sig .tc .smem S41x19 .f32) (arg4 : Memref sig .tc .vmem S192x256 .bf16) (harg4 : arg4.IsWhole)
  (arg5 : Memref sig .tc .vmem S192x5248 .fp8e4m3) (harg5 : arg5.IsWhole) (arg6 : Memref sig .tc .vmem S192x41 .f32)
  (arg7 : Memref sig .tc .vmem S41x192x128 .f32)
  (X : S192x5248.Idx → Elt F .bf16) (W : S5248x256.Idx → Elt F .fp8e4m3) (S : S41x19.Idx → Elt F .f32)

/-- The quantising loop, continued by `k`. -/
theorem wp_quantLoop {α : Type} {Q : α → sProp 𝕄} (gs : List (Fin 41)) : ∀ (packed : FVec F S192x128 .f32)
    (Y : S192x5248.Idx → Elt F .fp8e4m3) (Z : S41x192x128.Idx → Elt F .f32)
    (k : FVec F S192x128 .f32 → Prog (TpuEff nD τ sig (Elt F) Λ .tc) α),
    iprop((owns (c : Thread nD τ) arg1 fullShare X ∗ owns (c : Thread nD τ) arg5 fullShare Y ∗ owns (c : Thread nD τ) arg7 fullShare Z)
        ∗ (iprop(owns (c : Thread nD τ) arg1 fullShare X ∗ owns (c : Thread nD τ) arg5 fullShare (quantCodes X gs Y)
              ∗ owns (c : Thread nD τ) arg7 fullShare (quantPlanes X gs Z))
            -∗ wp frame (wpE defs 𝒱 (c : Thread nD τ) bd) E (k (quantPacked X gs packed)) Q))
      ⊢ (wp frame (wpE defs 𝒱 (c : Thread nD τ) bd) E (quantLoop arg1 arg5 harg5 arg7 gs packed >>= k) Q : sProp 𝕄) := by
  induction gs with
  | nil =>
    intro packed Y Z k
    iintro ⟨H, Hk⟩
    iapply Hk
    iexact H
  | cons g gs ih =>
    intro packed Y Z k
    unfold quantLoop quantStep
    simp only [Prog.lift, bind_assoc, Prog.bind_op, Prog.bind_ret]
    iintro ⟨⟨H1, H5, H7⟩, Hk⟩
    iapply (wp_load_owns 𝒱 (c : Thread nD τ) bd E) $$ H1
    iintro H1
    iapply (wp_load_owns 𝒱 (c : Thread nD τ) bd E) $$ H5
    iintro H5
    iapply (wp_store_owns 𝒱 (c : Thread nD τ) bd E) $$ H5
    iintro H5
    iapply (wp_load_owns 𝒱 (c : Thread nD τ) bd E) $$ H7
    iintro H7
    iapply (wp_store_owns 𝒱 (c : Thread nD τ) bd E) $$ H7
    iintro H7
    iapply ih
    isplitl [H1 H5 H7]
    · isplitl [H1]; · iexact H1
      isplitl [H5]; · iexact H5
      iexact H7
    iexact Hk

/-- The accumulating loop, continued by `k`. -/
theorem wp_accLoop {α : Type} {Q : α → sProp 𝕄} (i : grid0.Coords) (Y : S192x5248.Idx → Elt F .fp8e4m3) (Z : S41x192x128.Idx → Elt F .f32)
    (gs : List (Fin 41)) : ∀ (acc : FVec F S192x128 .f32 × FVec F S192x128 .f32)
    (k : FVec F S192x128 .f32 × FVec F S192x128 .f32 → Prog (TpuEff nD τ sig (Elt F) Λ .tc) α),
    iprop((owns (c : Thread nD τ) arg2 fullShare W ∗ owns (c : Thread nD τ) arg3 fullShare S
          ∗ owns (c : Thread nD τ) arg5 fullShare Y ∗ owns (c : Thread nD τ) arg7 fullShare Z)
        ∗ (iprop(owns (c : Thread nD τ) arg2 fullShare W ∗ owns (c : Thread nD τ) arg3 fullShare S
              ∗ owns (c : Thread nD τ) arg5 fullShare Y ∗ owns (c : Thread nD τ) arg7 fullShare Z)
            -∗ wp frame (wpE defs 𝒱 (c : Thread nD τ) bd) E (k (accFold i W S Y Z gs acc)) Q))
      ⊢ (wp frame (wpE defs 𝒱 (c : Thread nD τ) bd) E (accLoop i arg2 arg3 arg5 arg7 gs acc >>= k) Q : sProp 𝕄) := by
  induction gs with
  | nil =>
    intro acc k
    iintro ⟨H, Hk⟩
    iapply Hk
    iexact H
  | cons g gs ih =>
    intro acc k
    unfold accLoop accStep smemLoad smemLoadElt
    simp only [Prog.lift, bind_assoc, Prog.bind_op, Prog.bind_ret]
    iintro ⟨⟨H2, H3, H5, H7⟩, Hk⟩
    iapply (wp_load_owns 𝒱 (c : Thread nD τ) bd E) $$ H5
    iintro H5
    iapply (wp_load_owns 𝒱 (c : Thread nD τ) bd E) $$ H2
    iintro H2
    iapply (wp_load_owns 𝒱 (c : Thread nD τ) bd E) $$ H7
    iintro H7
    iapply (wp_load_owns 𝒱 (c : Thread nD τ) bd E) $$ H3
    iintro H3
    iapply (wp_load_owns 𝒱 (c : Thread nD τ) bd E) $$ H3
    iintro H3
    iapply ih
    isplitl [H2 H3 H5 H7]
    · isplitl [H2]; · iexact H2
      isplitl [H3]; · iexact H3
      isplitl [H5]; · iexact H5
      iexact H7
    iexact Hk

/-- The part every grid point runs. -/
theorem wp_accAll (i : grid0.Coords) (Y : S192x5248.Idx → Elt F .fp8e4m3) (Z : S41x192x128.Idx → Elt F .f32)
    (O : S192x256.Idx → Elt F .bf16) (K : PUnit → sProp 𝕄) :
    iprop((owns (c : Thread nD τ) arg2 fullShare W ∗ owns (c : Thread nD τ) arg3 fullShare S
          ∗ owns (c : Thread nD τ) arg4 fullShare O ∗ owns (c : Thread nD τ) arg5 fullShare Y ∗ owns (c : Thread nD τ) arg7 fullShare Z)
        ∗ (iprop(owns (c : Thread nD τ) arg2 fullShare W ∗ owns (c : Thread nD τ) arg3 fullShare S
              ∗ owns (c : Thread nD τ) arg4 fullShare (outBlock (accFold i W S Y Z groups (packed0, packed0)) O)
              ∗ owns (c : Thread nD τ) arg5 fullShare Y ∗ owns (c : Thread nD τ) arg7 fullShare Z)
            -∗ K ⟨⟩))
      ⊢ (wp frame (wpE defs 𝒱 (c : Thread nD τ) bd) E (accAll i arg2 arg3 arg4 harg4 arg5 arg7) K : sProp 𝕄) := by
  unfold accAll
  iintro ⟨⟨H2, H3, H4, H5, H7⟩, Hk⟩
  iapply (wp_accLoop 𝒱 c bd E arg2 arg3 arg5 arg7 W S i Y Z groups (packed0, packed0))
  isplitl [H2 H3 H5 H7]
  · isplitl [H2]; · iexact H2
    isplitl [H3]; · iexact H3
    isplitl [H5]; · iexact H5
    iexact H7
  iintro ⟨H2, H3, H5, H7⟩
  simp only [Prog.lift, bind_assoc, Prog.bind_op, Prog.bind_ret]
  iapply (wp_load_owns 𝒱 (c : Thread nD τ) bd E) $$ H4
  iintro H4
  iapply (wp_store_owns 𝒱 (c : Thread nD τ) bd E) $$ H4
  iintro H4
  iapply (wp_load_owns 𝒱 (c : Thread nD τ) bd E) $$ H4
  iintro H4
  iapply (wp_store_owns 𝒱 (c : Thread nD τ) bd E) $$ H4
  iintro H4
  iapply le_wp_ret
  iapply Hk
  isplitl [H2]; · iexact H2
  isplitl [H3]; · iexact H3
  isplitl [H4]; · iexact H4
  isplitl [H5]; · iexact H5
  iexact H7

/-- The part only the first grid point runs. -/
theorem wp_quantAll {α : Type} {Q : α → sProp 𝕄} (Y : S192x5248.Idx → Elt F .fp8e4m3) (Z : S41x192x128.Idx → Elt F .f32)
    (P : S192x41.Idx → Elt F .f32) (k : PUnit → Prog (TpuEff nD τ sig (Elt F) Λ .tc) α) :
    iprop((owns (c : Thread nD τ) arg1 fullShare X ∗ owns (c : Thread nD τ) arg5 fullShare Y
          ∗ owns (c : Thread nD τ) arg6 fullShare P ∗ owns (c : Thread nD τ) arg7 fullShare Z)
        ∗ (iprop(owns (c : Thread nD τ) arg1 fullShare X ∗ owns (c : Thread nD τ) arg5 fullShare (quantCodes X groups Y)
              ∗ owns (c : Thread nD τ) arg6 fullShare (scalesBlock (quantPacked X groups packed0) P)
              ∗ owns (c : Thread nD τ) arg7 fullShare (quantPlanes X groups Z))
            -∗ wp frame (wpE defs 𝒱 (c : Thread nD τ) bd) E (k ⟨⟩) Q))
      ⊢ (wp frame (wpE defs 𝒱 (c : Thread nD τ) bd) E (quantAll arg1 arg5 harg5 arg6 arg7 >>= k) Q : sProp 𝕄) := by
  unfold quantAll
  rw [bind_assoc]
  iintro ⟨⟨H1, H5, H6, H7⟩, Hk⟩
  iapply (wp_quantLoop 𝒱 c bd E arg1 arg5 harg5 arg7 X groups packed0 Y Z)
  isplitl [H1 H5 H7]
  · isplitl [H1]; · iexact H1
    isplitl [H5]; · iexact H5
    iexact H7
  iintro ⟨H1, H5, H7⟩
  simp only [Prog.lift, bind_assoc, Prog.bind_op, Prog.bind_ret]
  iapply (wp_load_owns 𝒱 (c : Thread nD τ) bd E) $$ H6
  iintro H6
  iapply (wp_store_owns 𝒱 (c : Thread nD τ) bd E) $$ H6
  iintro H6
  iapply Hk
  isplitl [H1]; · iexact H1
  isplitl [H5]; · iexact H5
  isplitl [H6]; · iexact H6
  iexact H7

/-- The whole body at the first grid point. -/
theorem wp_body_first (i : grid0.Coords) (hi : k0_cond1 i = 1#1) (Y : S192x5248.Idx → Elt F .fp8e4m3) (Z : S41x192x128.Idx → Elt F .f32)
    (O : S192x256.Idx → Elt F .bf16) (P : S192x41.Idx → Elt F .f32) (K : PUnit → sProp 𝕄) :
    iprop((owns (c : Thread nD τ) arg1 fullShare X ∗ owns (c : Thread nD τ) arg2 fullShare W ∗ owns (c : Thread nD τ) arg3 fullShare S
          ∗ owns (c : Thread nD τ) arg4 fullShare O ∗ owns (c : Thread nD τ) arg5 fullShare Y
          ∗ owns (c : Thread nD τ) arg6 fullShare P ∗ owns (c : Thread nD τ) arg7 fullShare Z)
        ∗ (iprop(owns (c : Thread nD τ) arg1 fullShare X ∗ owns (c : Thread nD τ) arg2 fullShare W ∗ owns (c : Thread nD τ) arg3 fullShare S
              ∗ owns (c : Thread nD τ) arg4 fullShare
                  (outBlock (accFold i W S (quantCodes X groups Y) (quantPlanes X groups Z) groups (packed0, packed0)) O)
              ∗ owns (c : Thread nD τ) arg5 fullShare (quantCodes X groups Y)
              ∗ owns (c : Thread nD τ) arg6 fullShare (scalesBlock (quantPacked X groups packed0) P)
              ∗ owns (c : Thread nD τ) arg7 fullShare (quantPlanes X groups Z))
            -∗ K ⟨⟩))
      ⊢ (wp frame (wpE defs 𝒱 (c : Thread nD τ) bd) E (body i arg1 arg2 arg3 arg4 harg4 arg5 harg5 arg6 arg7) K : sProp 𝕄) := by
  unfold body
  rw [dif_pos hi]
  iintro ⟨⟨H1, H2, H3, H4, H5, H6, H7⟩, Hk⟩
  iapply (wp_quantAll 𝒱 c bd E arg1 arg5 harg5 arg6 arg7 X Y Z P)
  isplitl [H1 H5 H6 H7]
  · isplitl [H1]; · iexact H1
    isplitl [H5]; · iexact H5
    isplitl [H6]; · iexact H6
    iexact H7
  iintro ⟨H1, H5, H6, H7⟩
  iapply (wp_accAll 𝒱 c bd E arg2 arg3 arg4 harg4 arg5 arg7 W S i)
  isplitl [H2 H3 H4 H5 H7]
  · isplitl [H2]; · iexact H2
    isplitl [H3]; · iexact H3
    isplitl [H4]; · iexact H4
    isplitl [H5]; · iexact H5
    iexact H7
  iintro ⟨H2, H3, H4, H5, H7⟩
  iapply Hk
  isplitl [H1]; · iexact H1
  isplitl [H2]; · iexact H2
  isplitl [H3]; · iexact H3
  isplitl [H4]; · iexact H4
  isplitl [H5]; · iexact H5
  isplitl [H6]; · iexact H6
  iexact H7

/-- The whole body at every other grid point: the buffers of `x`, of the codes and of the scales are not stored to. -/
theorem wp_body_later (i : grid0.Coords) (hi : k0_cond1 i ≠ 1#1) (Y : S192x5248.Idx → Elt F .fp8e4m3) (Z : S41x192x128.Idx → Elt F .f32)
    (O : S192x256.Idx → Elt F .bf16) (K : PUnit → sProp 𝕄) :
    iprop((owns (c : Thread nD τ) arg2 fullShare W ∗ owns (c : Thread nD τ) arg3 fullShare S
          ∗ owns (c : Thread nD τ) arg4 fullShare O ∗ owns (c : Thread nD τ) arg5 fullShare Y ∗ owns (c : Thread nD τ) arg7 fullShare Z)
        ∗ (iprop(owns (c : Thread nD τ) arg2 fullShare W ∗ owns (c : Thread nD τ) arg3 fullShare S
              ∗ owns (c : Thread nD τ) arg4 fullShare (outBlock (accFold i W S Y Z groups (packed0, packed0)) O)
              ∗ owns (c : Thread nD τ) arg5 fullShare Y ∗ owns (c : Thread nD τ) arg7 fullShare Z)
            -∗ K ⟨⟩))
      ⊢ (wp frame (wpE defs 𝒱 (c : Thread nD τ) bd) E (body i arg1 arg2 arg3 arg4 harg4 arg5 harg5 arg6 arg7) K : sProp 𝕄) := by
  unfold body
  rw [dif_neg hi]
  exact wp_accAll 𝒱 c bd E arg2 arg3 arg4 harg4 arg5 arg7 W S i Y Z O K

end Loops

end Cert.Body

end
-- ==== Proof.BodyEq.lean ====
/-
  The idealized kernel's printed body is `Body.body`: the printed parts are the same statements in the same order, so
  each equation holds by computation once the two programs are associated alike.
-/
module

public import proofs.«01_k».proof.Proof.Body

@[expose] public section

noncomputable section

namespace Cert.Body

open Idealize.ShloMosaic Idealize.SL.Sem
open Cert.KernelIdeal Cert.KernelIdeal.Facts Cert.KernelIdeal.Facts₀

variable {F : FTy → Type} [FloatOps F]

universe v

/-- Binding equal programs to equal continuations. -/
theorem bind_congr {E : Type → Type v} {α β : Type} {p q : Prog E α} {f g : α → Prog E β} (h : p = q) (h' : ∀ a, f a = g a) :
    p >>= f = q >>= g := by
  rw [h, funext h']

/-- Quantising a list of groups and then one more. -/
theorem quantLoop_append {nD : Nat} {τ : Topo} {sig : RefSig} {Λ : Labels} (arg1 : Memref sig .tc .vmem S192x5248 .bf16)
    (arg5 : Memref sig .tc .vmem S192x5248 .fp8e4m3) (harg5 : arg5.IsWhole) (arg7 : Memref sig .tc .vmem S41x192x128 .f32) (g : Fin 41) :
    ∀ (l : List (Fin 41)) (packed : FVec F S192x128 .f32),
      (quantLoop arg1 arg5 harg5 arg7 (l ++ [g]) packed : Prog (TpuEff nD τ sig (Elt F) Λ .tc) _)
        = quantLoop arg1 arg5 harg5 arg7 l packed >>= quantStep arg1 arg5 harg5 arg7 g
  | [], packed => Prog.bind_pure _
  | a :: l, packed => by
    refine (bind_congr rfl fun p => quantLoop_append arg1 arg5 harg5 arg7 g l p).trans ?_
    exact (Prog.bind_assoc _ _ _).symm

variable (i : grid0.Coords) (arg1 : Memref KernelIdeal.sig .tc .vmem S192x5248 .bf16) (harg1 : arg1.IsWhole)
  (arg2 : Memref KernelIdeal.sig .tc .vmem S5248x256 .fp8e4m3) (harg2 : arg2.IsWhole)
  (arg3 : Memref KernelIdeal.sig .tc .smem S41x19 .f32) (harg3 : arg3.IsWhole)
  (arg4 : Memref KernelIdeal.sig .tc .vmem S192x256 .bf16) (harg4 : arg4.IsWhole)
  (arg5 : Memref KernelIdeal.sig .tc .vmem S192x5248 .fp8e4m3) (harg5 : arg5.IsWhole)
  (arg6 : Memref KernelIdeal.sig .tc .vmem S192x41 .f32) (harg6 : arg6.IsWhole)
  (arg7 : Memref KernelIdeal.sig .tc .vmem S41x192x128 .f32) (harg7 : arg7.IsWhole)

set_option maxRecDepth 100000 in
set_option maxHeartbeats 0 in
/-- The first 60 printed statements of the last level of the first point's part: all groups but the last, and the last
    one's columns loaded. -/
theorem part57_eq {α : Type} (K : _ → Prog (TpuEff nD τ KernelIdeal.sig (Elt F) Λ₀ .tc) α) :
    k0_part57 (F := F) i arg1 harg1 arg2 harg2 arg3 harg3 arg4 harg4 arg5 harg5 arg6 harg6 arg7 harg7 >>= K
      = quantLoop arg1 arg5 harg5 arg7 groups40 packed0 >>= fun p =>
          Prog.lift (.load arg1 (colRect 40).toLoadRect (View.loadsAt_vmem h_S192x128)) >>= fun v =>
            K ⟨iota .tc S192x128 32 [1] iota_S192x128_d1_w32, p, wideX v, field v, normal v, addi (field v) (broadcast S192x1 1#32), 23#32⟩ :=
  rfl

set_option maxRecDepth 100000 in
set_option maxHeartbeats 0 in
/-- The printed body is the body over groups. -/
theorem body_eq :
    cc0__body (F := F) i arg1 harg1 arg2 harg2 arg3 harg3 arg4 harg4 arg5 harg5 arg6 harg6 arg7 harg7 = body i arg1 arg2 arg3 arg4 harg4 arg5 harg5 arg6 arg7 := by
  by_cases h : k0_cond1 i = 1#1
  · unfold cc0__body k0_part58 body quantAll
    rw [dif_pos h, dif_pos h]
    refine (Prog.bind_assoc _ _ _).trans ?_
    refine (part57_eq i arg1 harg1 arg2 harg2 arg3 harg3 arg4 harg4 arg5 harg5 arg6 harg6 arg7 harg7 _).trans ?_
    rw [show (groups : List (Fin 41)) = groups40 ++ [40] from rfl, quantLoop_append]
    refine Eq.trans ?_ (Prog.bind_assoc _ _ _).symm
    refine Eq.trans ?_ (Prog.bind_assoc _ _ _).symm
    refine bind_congr rfl fun p => ?_
    rfl
  · unfold cc0__body k0_part58 body
    rw [dif_neg h, dif_neg h]
    rfl

end Cert.Body

end
-- ==== Proof.BodyEqKernel.lean ====
/-
  The kernel's printed body is `Body.body`, as the idealized kernel's is (`BodyEq.lean`).
-/
module

public import proofs.«01_k».proof.Proof.BodyEq
public import proofs.«01_k».proof.Proof.Gen.Kernel

@[expose] public section

noncomputable section

namespace Cert.Body

open Idealize.ShloMosaic Idealize.SL.Sem
open Cert.KernelIdeal Cert.KernelIdeal.Facts Cert.KernelIdeal.Facts₀

variable {F : FTy → Type} [FloatOps F]

variable (i : grid0.Coords) (arg1 : Memref Kernel.sig .tc .vmem S192x5248 .bf16) (harg1 : arg1.IsWhole)
  (arg2 : Memref Kernel.sig .tc .vmem S5248x256 .fp8e4m3) (harg2 : arg2.IsWhole)
  (arg3 : Memref Kernel.sig .tc .smem S41x19 .f32) (harg3 : arg3.IsWhole)
  (arg4 : Memref Kernel.sig .tc .vmem S192x256 .bf16) (harg4 : arg4.IsWhole)
  (arg5 : Memref Kernel.sig .tc .vmem S192x5248 .fp8e4m3) (harg5 : arg5.IsWhole)
  (arg6 : Memref Kernel.sig .tc .vmem S192x41 .f32) (harg6 : arg6.IsWhole)
  (arg7 : Memref Kernel.sig .tc .vmem S41x192x128 .f32) (harg7 : arg7.IsWhole)

set_option maxRecDepth 100000 in
set_option maxHeartbeats 0 in
/-- The first 60 printed statements of the last level of the first point's part: all groups but the last, and the last
    one's columns loaded. -/
theorem kernel_part57_eq {α : Type} (K : _ → Prog (TpuEff Kernel.nD Kernel.τ Kernel.sig (Elt F) Kernel.Λ₀ .tc) α) :
    Kernel.k0_part57 (F := F) i arg1 harg1 arg2 harg2 arg3 harg3 arg4 harg4 arg5 harg5 arg6 harg6 arg7 harg7 >>= K
      = quantLoop arg1 arg5 harg5 arg7 groups40 packed0 >>= fun p =>
          Prog.lift (.load arg1 (colRect 40).toLoadRect (View.loadsAt_vmem h_S192x128)) >>= fun v =>
            K ⟨iota .tc S192x128 32 [1] iota_S192x128_d1_w32, p, wideX v, field v, normal v, addi (field v) (broadcast S192x1 1#32), 23#32⟩ :=
  rfl

set_option maxRecDepth 100000 in
set_option maxHeartbeats 0 in
/-- The printed body is the body over groups. -/
theorem kernel_body_eq :
    Kernel.cc0__body (F := F) i arg1 harg1 arg2 harg2 arg3 harg3 arg4 harg4 arg5 harg5 arg6 harg6 arg7 harg7 = body i arg1 arg2 arg3 arg4 harg4 arg5 harg5 arg6 arg7 := by
  by_cases h : k0_cond1 i = 1#1
  · unfold Kernel.cc0__body Kernel.k0_part58 body quantAll
    rw [dif_pos (show Kernel.k0_cond1 i = 1#1 from h), dif_pos h]
    refine (Prog.bind_assoc _ _ _).trans ?_
    refine (kernel_part57_eq i arg1 harg1 arg2 harg2 arg3 harg3 arg4 harg4 arg5 harg5 arg6 harg6 arg7 harg7 _).trans ?_
    rw [show (groups : List (Fin 41)) = groups40 ++ [40] from rfl, quantLoop_append]
    refine Eq.trans ?_ (Prog.bind_assoc _ _ _).symm
    refine Eq.trans ?_ (Prog.bind_assoc _ _ _).symm
    refine bind_congr rfl fun p => ?_
    rfl
  · unfold Kernel.cc0__body Kernel.k0_part58 body
    rw [dif_neg (show ¬Kernel.k0_cond1 i = 1#1 from h), dif_neg h]
    rfl

end Cert.Body

end
-- ==== Proof.FrameKernel.lean ====
/-
  The kernel runs and leaves its arguments as it found them. Nothing is said of the outputs: their blocks are
  forgotten, so the body may leave anything in their buffers.
-/
module

public import proofs.«01_k».proof.Proof.Wp
public import proofs.«01_k».proof.Proof.BodyEqKernel
public import proofs.«01_k».proof.Proof.Gen.Kernel.Frame
public import proofs.«01_k».proof.Proof.Gen.Kernel.Points

@[expose] public section

set_option maxRecDepth 16384

noncomputable section

namespace Cert.Kernel.Run

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-- The weights' block at a point, filled out past the array's end. -/
def wblk (c : Dev nD) (t : Fin cfg0.N) : S5248x256.Idx → Elt F .fp8e4m3 :=
  win0_1.fill (grid0.coords t) (fun _ => Scalar.ofBits .fp8e4m3 0#8) (iblk m c 1 t)

/-- The proof data: the inputs' buffers keep their blocks; the outputs' are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => Dat.unnamed 3 t
    | ⟨4, _⟩ => Dat.unnamed 4 t
    | ⟨5, _⟩ => Dat.unnamed 5 t
  Φ _ := Pipeline.ΦA spec0 c
  q _ := fullShare
  owed _ := 0

/-- The outputs are forgotten. -/
def fgt : Fin 6 → Bool := ![false, false, false, true, true, true]

theorem before_1 (c : Dev nD) (t : Fin cfg0.N) (d) :
    (dats m 0 c).before (1 : Fin 6) t d = win0_1.fill (grid0.coords t) d (iblk m c 1 t) := by
  unfold Dat.before; rw [if_pos (fetch0_1 t)]; rfl

/-- What is left of the weights' block inside the array is the block. -/
theorem wblk_cut (c : Dev nD) (t : Fin cfg0.N) : win0_1.cut (grid0.coords t) (wblk m c t) = iblk m c 1 t :=
  win0_1.cut_fill _ _ _

seal wblk in
theorem after_1 (c : Dev nD) (t : Fin cfg0.N) : (dats m 0 c).after (1 : Fin 6) t = wblk m c t := by
  rfl

theorem fill_wblk (c : Dev nD) (t : Fin cfg0.N) (d : S5248x256.Idx → Elt F .fp8e4m3) :
    win0_1.fill (grid0.coords t) d (win0_1.cut (grid0.coords t) (wblk m c t))
      = win0_1.fill (grid0.coords t) d (iblk m c 1 t) := by
  rw [wblk_cut]

/-- What the obligation asks of the weights' buffer is what it held. -/
theorem kept (c : Dev nD) (t : Fin cfg0.N) (d) :
    (cfg0.win (1 : Fin 6)).fill (grid0.coords t) d ((cfg0.win (1 : Fin 6)).cut (grid0.coords t) ((dats m 0 c).after (1 : Fin 6) t))
      = win0_1.fill (grid0.coords t) d (iblk m c 1 t) := by
  rw [after_1]; exact fill_wblk m c t d

/-- The printed body at a point's buffers is the body over groups. -/
theorem bodyAt0_eq (t : Fin cfg0.N) : (bodyAt0 (F := F) t) =
    Body.body (grid0.coords t) (st0_0 t) (st0_1 t) (st0_2 t) (st0_3 t) (hstage0_3 ((cfg0.slots t 3).cast nbuf0_3))
      (st0_4 t) (hstage0_4 ((cfg0.slots t 4).cast nbuf0_4)) (st0_5 t) (Memref.whole cc0_scratch0) :=
  Body.kernel_body_eq _ _ _ _ _ _ _ _ _ _ _ _ _ _ _

/-- The body keeps what it is given of the inputs, at every point. -/
theorem sound_body (c : Dev nD) (t : Fin cfg0.N) (X : S192x5248.Idx → Elt F .bf16) (W : S5248x256.Idx → Elt F .fp8e4m3)
    (S : S41x19.Idx → Elt F .f32) (O : S192x256.Idx → Elt F .bf16) (Y : S192x5248.Idx → Elt F .fp8e4m3)
    (P : S192x41.Idx → Elt F .f32) (Z : S41x192x128.Idx → Elt F .f32) (K : PUnit → sProp 𝕄) :
    iprop((owns (c : Thread nD τ) (st0_0 t) fullShare X ∗ owns (c : Thread nD τ) (st0_1 t) fullShare W
          ∗ owns (c : Thread nD τ) (st0_2 t) fullShare S ∗ owns (c : Thread nD τ) (st0_3 t) fullShare O
          ∗ owns (c : Thread nD τ) (st0_4 t) fullShare Y ∗ owns (c : Thread nD τ) (st0_5 t) fullShare P
          ∗ owns (c : Thread nD τ) (Memref.whole cc0_scratch0) fullShare Z)
        ∗ (iprop(owns (c : Thread nD τ) (st0_0 t) fullShare X ∗ owns (c : Thread nD τ) (st0_1 t) fullShare W
              ∗ owns (c : Thread nD τ) (st0_2 t) fullShare S
              ∗ (∃ O', owns (c : Thread nD τ) (st0_3 t) fullShare O')
              ∗ (∃ Y', owns (c : Thread nD τ) (st0_4 t) fullShare Y')
              ∗ (∃ P', owns (c : Thread nD τ) (st0_5 t) fullShare P')
              ∗ (∃ Z', owns (c : Thread nD τ) (Memref.whole cc0_scratch0) fullShare Z'))
            -∗ K ⟨⟩))
      ⊢ (wp frame (wpE (defs₀ (F := F)) 𝒱₀ (c : Thread nD τ) none) Set.univ (defs₀ (F := F) Proc.tc 0 (t, cfg0.slots t)) K : sProp 𝕄) := by
  change _ ⊢ (wp frame (wpE (defs₀ (F := F)) 𝒱₀ (c : Thread nD τ) none) Set.univ (bodyAt0 t) K : sProp 𝕄)
  rw [bodyAt0_eq]
  by_cases h : k0_cond1 (grid0.coords t) = 1#1
  · iintro ⟨H, Hk⟩
    iapply (Body.wp_body_first 𝒱₀ c none Set.univ (st0_0 t) (st0_1 t) (st0_2 t) (st0_3 t) _ (st0_4 t) _ (st0_5 t)
      (Memref.whole cc0_scratch0) X W S (grid0.coords t) h Y Z O P)
    isplitl [H]; · iexact H
    iintro ⟨H1, H2, H3, H4, H5, H6, H7⟩
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7
  · iintro ⟨⟨H1, H2, H3, H4, H5, H6, H7⟩, Hk⟩
    iapply (Body.wp_body_later 𝒱₀ c none Set.univ (st0_0 t) (st0_1 t) (st0_2 t) (st0_3 t) _ (st0_4 t) _ (st0_5 t)
      (Memref.whole cc0_scratch0) W S (grid0.coords t) h Y Z O)
    isplitl [H2 H3 H4 H5 H7]
    · isplitl [H2]; · iexact H2
      isplitl [H3]; · iexact H3
      isplitl [H4]; · iexact H4
      isplitl [H5]; · iexact H5
      iexact H7
    iintro ⟨H2, H3, H4, H5, H7⟩
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7

/-- The library's body obligation, the outputs forgotten. -/
theorem body_obligation (c : Dev nD) : BodyObligationLoose (dats m 0 c) (defs₀ (F := F)) 𝒱₀ () Set.univ fgt := fun t => by
  rw [bigSep_W0, bigSep_W0]
  simp only [show fgt 0 = false from rfl, show fgt 1 = false from rfl, show fgt 2 = false from rfl,
    show fgt 3 = true from rfl, show fgt 4 = true from rfl, show fgt 5 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [← owns_whole]
  iintro ⟨⟨⟨%Z, HZ⟩, Hr⟩, Ho, ⟨%d0, H0⟩, ⟨%d1, H1⟩, ⟨%d2, H2⟩, ⟨%O, H3⟩, ⟨%Y, H4⟩, ⟨%P, H5⟩⟩
  rw [before0_0_of m (dats m 0 c) rfl (fun _ => rfl) t d0, before_1 m c t d1, before0_2_of m (dats m 0 c) rfl (fun _ => rfl) t d2]
  iapply (sound_body c t (iblk m c 0 t) (win0_1.fill (grid0.coords t) d1 (iblk m c 1 t)) (iblk m c 2 t) O Y P Z _)
  isplitl [H0 H1 H2 H3 H4 H5 HZ]
  · isplitl [H0]; · iexact H0
    isplitl [H1]; · iexact H1
    isplitl [H2]; · iexact H2
    isplitl [H3]; · iexact H3
    isplitl [H4]; · iexact H4
    isplitl [H5]; · iexact H5
    iexact HZ
  iintro ⟨H0, H1, H2, H3, H4, H5, ⟨%Z', HZ⟩⟩
  isplitl [HZ Hr]
  · isplitl [HZ]
    · iexists Z'; iexact HZ
    iexact Hr
  isplitl [Ho]; · iexact Ho
  isplitl [H0]; · iexact H0
  isplitl [H1]
  · iexists d1
    rw [kept m c t d1]
    iexact H1
  isplitl [H2]; · iexact H2
  isplitl [H3]; · iexact H3
  isplitl [H4]; · iexact H4
  iexact H5

/-- The buffers the host's last lines write: the results. -/
def results : Finset (Ref sig .tc) := {main_v2, main_v3, main_v4}

theorem writes_results : ∀ ops ∈ ([hostOps1] : List (List (HloOp τ sig (Elt F)))), ∀ op ∈ ops, ∀ b : Ref sig .tc,
    Proc.devRef .tc b ∈ op.writes → b ∈ results := by
  intro ops hops op hop b hb
  simp only [List.mem_cons, List.mem_nil_iff, or_false] at hops
  subst hops
  simp only [hostOps1, List.mem_cons, List.mem_nil_iff, or_false] at hop
  rcases hop with rfl | rfl | rfl <;>
    · rw [StableHlo.reshape_writes, Finset.mem_singleton] at hb
      have hb' := Proc.devRef_injective _ hb
      subst hb'
      decide

/-- From any memory, the kernel runs to an end with its arguments as launched and its counters at zero. -/
theorem run : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  Pipeline.θ_run_frame_around_T_forget cfgs (dats m) 0 launch0 defs₀ 𝒱₀ fgt results m ρ main
    (fun c => body_obligation m c) (fun c => (dats m 0 c).share_full fun _ => rfl) (fun _ _ => rfl)
    (V0 m) [hostOps1] sfx_sub sfx_fresh sfx_keeps writes_results (hmain m 𝒱₀) (fun _ _ => rfl) (fun _ _ => rfl) _
    (fun r h => ⟨fun c =>
      ⟨((h.1 c).2 main_arg0 (Finset.mem_sdiff.mpr ⟨Pipeline.mem_restRefs_of main_arg0 (by decide) (by decide), by decide⟩)).trans
          (V_main_arg0 m c),
        (Pipeline.RDat.FramePostR.arr_in h.1 c 1 rfl).trans (V_main_arg1 m c),
        (Pipeline.RDat.FramePostR.arr_in h.1 c 2 rfl).trans (V_main_arg2 m c)⟩, h.2⟩)

end Cert.Kernel.Run

end
-- ==== Proof.FrameIdeal.lean ====
/-
  The kernel runs and leaves its arguments as it found them. Nothing is said of the outputs: their blocks are
  forgotten, so the body may leave anything in their buffers.
-/
module

public import proofs.«01_k».proof.Proof.Wp
public import proofs.«01_k».proof.Proof.BodyEq
public import proofs.«01_k».proof.Proof.Gen.KernelIdeal.Frame
public import proofs.«01_k».proof.Proof.Gen.KernelIdeal.Points

@[expose] public section

set_option maxRecDepth 16384

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-- The weights' block at a point, filled out past the array's end. -/
def wblk (c : Dev nD) (t : Fin cfg0.N) : S5248x256.Idx → Elt F .fp8e4m3 :=
  win0_1.fill (grid0.coords t) (fun _ => Scalar.ofBits .fp8e4m3 0#8) (iblk m c 1 t)

/-- The proof data: the inputs' buffers keep their blocks; the outputs' are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => Dat.unnamed 3 t
    | ⟨4, _⟩ => Dat.unnamed 4 t
    | ⟨5, _⟩ => Dat.unnamed 5 t
  Φ _ := Pipeline.ΦA spec0 c
  q _ := fullShare
  owed _ := 0

/-- The outputs are forgotten. -/
def fgt : Fin 6 → Bool := ![false, false, false, true, true, true]

theorem before_1 (c : Dev nD) (t : Fin cfg0.N) (d) :
    (dats m 0 c).before (1 : Fin 6) t d = win0_1.fill (grid0.coords t) d (iblk m c 1 t) := by
  unfold Dat.before; rw [if_pos (fetch0_1 t)]; rfl

/-- What is left of the weights' block inside the array is the block. -/
theorem wblk_cut (c : Dev nD) (t : Fin cfg0.N) : win0_1.cut (grid0.coords t) (wblk m c t) = iblk m c 1 t :=
  win0_1.cut_fill _ _ _

seal wblk in
theorem after_1 (c : Dev nD) (t : Fin cfg0.N) : (dats m 0 c).after (1 : Fin 6) t = wblk m c t := by
  rfl

theorem fill_wblk (c : Dev nD) (t : Fin cfg0.N) (d : S5248x256.Idx → Elt F .fp8e4m3) :
    win0_1.fill (grid0.coords t) d (win0_1.cut (grid0.coords t) (wblk m c t))
      = win0_1.fill (grid0.coords t) d (iblk m c 1 t) := by
  rw [wblk_cut]

/-- What the obligation asks of the weights' buffer is what it held. -/
theorem kept (c : Dev nD) (t : Fin cfg0.N) (d) :
    (cfg0.win (1 : Fin 6)).fill (grid0.coords t) d ((cfg0.win (1 : Fin 6)).cut (grid0.coords t) ((dats m 0 c).after (1 : Fin 6) t))
      = win0_1.fill (grid0.coords t) d (iblk m c 1 t) := by
  rw [after_1]; exact fill_wblk m c t d

/-- The printed body at a point's buffers is the body over groups. -/
theorem bodyAt0_eq (t : Fin cfg0.N) : (bodyAt0 (F := F) t) =
    Body.body (grid0.coords t) (st0_0 t) (st0_1 t) (st0_2 t) (st0_3 t) (hstage0_3 ((cfg0.slots t 3).cast nbuf0_3))
      (st0_4 t) (hstage0_4 ((cfg0.slots t 4).cast nbuf0_4)) (st0_5 t) (Memref.whole cc0_scratch0) :=
  Body.body_eq _ _ _ _ _ _ _ _ _ _ _ _ _ _ _

/-- The body keeps what it is given of the inputs, at every point. -/
theorem sound_body (c : Dev nD) (t : Fin cfg0.N) (X : S192x5248.Idx → Elt F .bf16) (W : S5248x256.Idx → Elt F .fp8e4m3)
    (S : S41x19.Idx → Elt F .f32) (O : S192x256.Idx → Elt F .bf16) (Y : S192x5248.Idx → Elt F .fp8e4m3)
    (P : S192x41.Idx → Elt F .f32) (Z : S41x192x128.Idx → Elt F .f32) (K : PUnit → sProp 𝕄) :
    iprop((owns (c : Thread nD τ) (st0_0 t) fullShare X ∗ owns (c : Thread nD τ) (st0_1 t) fullShare W
          ∗ owns (c : Thread nD τ) (st0_2 t) fullShare S ∗ owns (c : Thread nD τ) (st0_3 t) fullShare O
          ∗ owns (c : Thread nD τ) (st0_4 t) fullShare Y ∗ owns (c : Thread nD τ) (st0_5 t) fullShare P
          ∗ owns (c : Thread nD τ) (Memref.whole cc0_scratch0) fullShare Z)
        ∗ (iprop(owns (c : Thread nD τ) (st0_0 t) fullShare X ∗ owns (c : Thread nD τ) (st0_1 t) fullShare W
              ∗ owns (c : Thread nD τ) (st0_2 t) fullShare S
              ∗ (∃ O', owns (c : Thread nD τ) (st0_3 t) fullShare O')
              ∗ (∃ Y', owns (c : Thread nD τ) (st0_4 t) fullShare Y')
              ∗ (∃ P', owns (c : Thread nD τ) (st0_5 t) fullShare P')
              ∗ (∃ Z', owns (c : Thread nD τ) (Memref.whole cc0_scratch0) fullShare Z'))
            -∗ K ⟨⟩))
      ⊢ (wp frame (wpE (defs₀ (F := F)) 𝒱₀ (c : Thread nD τ) none) Set.univ (defs₀ (F := F) Proc.tc 0 (t, cfg0.slots t)) K : sProp 𝕄) := by
  change _ ⊢ (wp frame (wpE (defs₀ (F := F)) 𝒱₀ (c : Thread nD τ) none) Set.univ (bodyAt0 t) K : sProp 𝕄)
  rw [bodyAt0_eq]
  by_cases h : k0_cond1 (grid0.coords t) = 1#1
  · iintro ⟨H, Hk⟩
    iapply (Body.wp_body_first 𝒱₀ c none Set.univ (st0_0 t) (st0_1 t) (st0_2 t) (st0_3 t) _ (st0_4 t) _ (st0_5 t)
      (Memref.whole cc0_scratch0) X W S (grid0.coords t) h Y Z O P)
    isplitl [H]; · iexact H
    iintro ⟨H1, H2, H3, H4, H5, H6, H7⟩
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7
  · iintro ⟨⟨H1, H2, H3, H4, H5, H6, H7⟩, Hk⟩
    iapply (Body.wp_body_later 𝒱₀ c none Set.univ (st0_0 t) (st0_1 t) (st0_2 t) (st0_3 t) _ (st0_4 t) _ (st0_5 t)
      (Memref.whole cc0_scratch0) W S (grid0.coords t) h Y Z O)
    isplitl [H2 H3 H4 H5 H7]
    · isplitl [H2]; · iexact H2
      isplitl [H3]; · iexact H3
      isplitl [H4]; · iexact H4
      isplitl [H5]; · iexact H5
      iexact H7
    iintro ⟨H2, H3, H4, H5, H7⟩
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7

/-- The library's body obligation, the outputs forgotten. -/
theorem body_obligation (c : Dev nD) : BodyObligationLoose (dats m 0 c) (defs₀ (F := F)) 𝒱₀ () Set.univ fgt := fun t => by
  rw [bigSep_W0, bigSep_W0]
  simp only [show fgt 0 = false from rfl, show fgt 1 = false from rfl, show fgt 2 = false from rfl,
    show fgt 3 = true from rfl, show fgt 4 = true from rfl, show fgt 5 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [← owns_whole]
  iintro ⟨⟨⟨%Z, HZ⟩, Hr⟩, Ho, ⟨%d0, H0⟩, ⟨%d1, H1⟩, ⟨%d2, H2⟩, ⟨%O, H3⟩, ⟨%Y, H4⟩, ⟨%P, H5⟩⟩
  rw [before0_0_of m (dats m 0 c) rfl (fun _ => rfl) t d0, before_1 m c t d1, before0_2_of m (dats m 0 c) rfl (fun _ => rfl) t d2]
  iapply (sound_body c t (iblk m c 0 t) (win0_1.fill (grid0.coords t) d1 (iblk m c 1 t)) (iblk m c 2 t) O Y P Z _)
  isplitl [H0 H1 H2 H3 H4 H5 HZ]
  · isplitl [H0]; · iexact H0
    isplitl [H1]; · iexact H1
    isplitl [H2]; · iexact H2
    isplitl [H3]; · iexact H3
    isplitl [H4]; · iexact H4
    isplitl [H5]; · iexact H5
    iexact HZ
  iintro ⟨H0, H1, H2, H3, H4, H5, ⟨%Z', HZ⟩⟩
  isplitl [HZ Hr]
  · isplitl [HZ]
    · iexists Z'; iexact HZ
    iexact Hr
  isplitl [Ho]; · iexact Ho
  isplitl [H0]; · iexact H0
  isplitl [H1]
  · iexists d1
    rw [kept m c t d1]
    iexact H1
  isplitl [H2]; · iexact H2
  isplitl [H3]; · iexact H3
  isplitl [H4]; · iexact H4
  iexact H5

/-- The buffers the host's last lines write: the results. -/
def results : Finset (Ref sig .tc) := {main_v2, main_v3, main_v4}

theorem writes_results : ∀ ops ∈ ([hostOps1] : List (List (HloOp τ sig (Elt F)))), ∀ op ∈ ops, ∀ b : Ref sig .tc,
    Proc.devRef .tc b ∈ op.writes → b ∈ results := by
  intro ops hops op hop b hb
  simp only [List.mem_cons, List.mem_nil_iff, or_false] at hops
  subst hops
  simp only [hostOps1, List.mem_cons, List.mem_nil_iff, or_false] at hop
  rcases hop with rfl | rfl | rfl <;>
    · rw [StableHlo.reshape_writes, Finset.mem_singleton] at hb
      have hb' := Proc.devRef_injective _ hb
      subst hb'
      decide

/-- From any memory, the kernel runs to an end with its arguments as launched and its counters at zero. -/
theorem run : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  Pipeline.θ_run_frame_around_T_forget cfgs (dats m) 0 launch0 defs₀ 𝒱₀ fgt results m ρ main
    (fun c => body_obligation m c) (fun c => (dats m 0 c).share_full fun _ => rfl) (fun _ _ => rfl)
    (V0 m) [hostOps1] sfx_sub sfx_fresh sfx_keeps writes_results (hmain m 𝒱₀) (fun _ _ => rfl) (fun _ _ => rfl) _
    (fun r h => ⟨fun c =>
      ⟨((h.1 c).2 main_arg0 (Finset.mem_sdiff.mpr ⟨Pipeline.mem_restRefs_of main_arg0 (by decide) (by decide), by decide⟩)).trans
          (V_main_arg0 m c),
        (Pipeline.RDat.FramePostR.arr_in h.1 c 1 rfl).trans (V_main_arg1 m c),
        (Pipeline.RDat.FramePostR.arr_in h.1 c 2 rfl).trans (V_main_arg2 m c)⟩, h.2⟩)

end Cert.KernelIdeal.Run

end
-- ==== Proof.Folds.lean ====
/-
  The folds of `Wp.lean` read at an index: after all 41 groups every code, wide scale and packed scale is the one of its
  own group, whatever the buffers held before.
-/
module

public import proofs.«01_k».proof.Proof.Wp
public import Idealize.ShloMosaic.Lib.ValueIdxCore
public import Idealize.ShloMosaic.Lib.ValueLayout

@[expose] public section

noncomputable section

namespace Cert.Body

open Idealize.ShloMosaic Idealize.ShloMosaic.ValueIdx
open Idealize.ShloMosaic.View (ld)
open Cert.KernelIdeal Cert.KernelIdeal.Facts Cert.KernelIdeal.Facts₀

/-- An overlaid rectangle read at the place of one of its own indices. -/
theorem overlay_at {α : Type} {s : Shape} (r : Rect s) (X : s.Idx → α) (G : r.shape.Idx → α) (i : r.shape.Idx) (j : s.Idx)
    (h : r.emb i = j) : r.overlay X G j = G i := by
  subst h; exact Rect.overlay_emb r X G i

/-- Rectangles overlaid one after the other, each with the values of one target there: an index some rectangle of the list
    holds, or that held the target before, holds the target. -/
theorem foldl_overlay {ι α : Type} {s : Shape} (rect : ι → Rect s) (val : ∀ g, (rect g).shape.Idx → α) (T : s.Idx → α)
    (hT : ∀ g x, T ((rect g).emb x) = val g x) (gs : List ι) : ∀ (Y : s.Idx → α) (p : s.Idx),
    ((∃ g ∈ gs, p ∈ (rect g).set) ∨ Y p = T p) → gs.foldl (fun Y g => (rect g).overlay Y (val g)) Y p = T p := by
  induction gs with
  | nil =>
    intro Y p h
    rcases h with ⟨g, hg, _⟩ | h
    · exact absurd hg (List.not_mem_nil)
    · exact h
  | cons a gs ih =>
    intro Y p h
    rw [List.foldl_cons]
    refine ih _ p ?_
    by_cases hp : p ∈ (rect a).set
    · right
      obtain ⟨x, rfl⟩ := (rect a).exists_idx_of_mem hp
      exact (Rect.overlay_emb (rect a) Y (val a) x).trans (hT a x).symm
    · rcases h with ⟨g, hg, hpg⟩ | h
      · rcases List.mem_cons.1 hg with rfl | hg
        · exact absurd hpg hp
        · exact Or.inl ⟨g, hg, hpg⟩
      · right
        rw [Rect.overlay_of_not_mem _ _ _ hp]; exact h

/-- A fold that selects, at step `g`, the value of `g` where the condition holds, read at an index where the condition
    holds of exactly one member. -/
theorem foldl_select {ι α β : Type} (step : ι → (β → α) → β → α) (T : α) (p : β) (own : ι → Prop)
    (h1 : ∀ g X, own g → step g X p = T) (h0 : ∀ g X, ¬ own g → step g X p = X p) (gs : List ι) : ∀ X : β → α,
    ((∃ g ∈ gs, own g) ∨ X p = T) → gs.foldl (fun X g => step g X) X p = T := by
  induction gs with
  | nil =>
    intro X h
    rcases h with ⟨g, hg, _⟩ | h
    · exact absurd hg (List.not_mem_nil)
    · exact h
  | cons a gs ih =>
    intro X h
    rw [List.foldl_cons]
    refine ih _ ?_
    by_cases ha : own a
    · exact Or.inr (h1 a X ha)
    · rcases h with ⟨g, hg, hpg⟩ | h
      · rcases List.mem_cons.1 hg with rfl | hg
        · exact absurd hpg ha
        · exact Or.inl ⟨g, hg, hpg⟩
      · exact Or.inr ((h0 a X ha).trans h)

theorem mem_groups (g : Fin 41) : g ∈ groups := by revert g; decide

variable {F : FTy → Type} [FloatOps F]

/-- The group of a column. -/
abbrev grpOf (k : Fin 5248) : Fin 41 := ⟨k.val / 128, by omega⟩
/-- The lane of a column in its group. -/
abbrev laneOf (k : Fin 5248) : Fin 128 := ⟨k.val % 128, by omega⟩
/-- The column of a group's lane. -/
abbrev colOf (g : Fin 41) (l : Fin 128) : Fin 5248 := ⟨128 * g.val + l.val, by omega⟩

theorem ld_col {α : EltTy → Type} {e : EltTy} (X : S192x5248.Idx → α e) (g : Fin 41) (r : Fin 192) (l : Fin 128) :
    ld X (colRect g) (ix2 r l) = X (ix2 r (colOf g l)) := by
  refine congrArg X (funext fun a => Fin.ext ?_)
  match a with
  | ⟨0, _⟩ => show 0 + 1 * r.val = r.val; omega
  | ⟨1, _⟩ => show 128 * g.val + 1 * l.val = 128 * g.val + l.val; omega

theorem ld_row {α : EltTy → Type} {e : EltTy} (W : S5248x256.Idx → α e) (g : Fin 41) (k : Fin 128) (j : Fin 256) :
    ld W (rowRect g) (ix2 k j) = W (ix2 (colOf g k) j) := by
  refine congrArg W (funext fun a => Fin.ext ?_)
  match a with
  | ⟨0, _⟩ => show 128 * g.val + 1 * k.val = 128 * g.val + k.val; omega
  | ⟨1, _⟩ => show 0 + 1 * j.val = j.val; omega

theorem ld_plane {α : EltTy → Type} {e : EltTy} (Z : S41x192x128.Idx → α e) (g : Fin 41) (u : Fin 1) (r : Fin 192) (l : Fin 128) :
    ld Z (planeRect g) (ix3 u r l) = Z (ix3 g r l) := by
  refine congrArg Z (funext fun a => Fin.ext ?_)
  match a with
  | ⟨0, _⟩ => show g.val + 1 * u.val = g.val; omega
  | ⟨1, _⟩ => show 0 + 1 * r.val = r.val; omega
  | ⟨2, _⟩ => show 0 + 1 * l.val = l.val; omega

/-- The codes of every group. -/
def codesT (X : S192x5248.Idx → Elt F .bf16) : S192x5248.Idx → Elt F .fp8e4m3 := fun p =>
  codesOf (ld X (colRect (grpOf (p 1)))) (ix2 (p 0) (laneOf (p 1)))

/-- The wide scales of every group. -/
def planesT (X : S192x5248.Idx → Elt F .bf16) : S41x192x128.Idx → Elt F .f32 := fun p =>
  wideScale (ld X (colRect (p 0))) (ix2 (p 1) (p 2))

/-- The scales of every group. -/
def scalesT (X : S192x5248.Idx → Elt F .bf16) : S192x41.Idx → Elt F .f32 := fun p =>
  wideScale (ld X (colRect (p 1))) (ix2 (p 0) ⟨(p 1).val, by have := (p 1).isLt; simp at this; omega⟩)

theorem quantCodes_eq (X : S192x5248.Idx → Elt F .bf16) (Y : S192x5248.Idx → Elt F .fp8e4m3) :
    quantCodes X groups Y = codesT X := by
  funext p
  refine foldl_overlay colRect (fun g => codesOf (ld X (colRect g))) (codesT X) ?_ groups Y p (Or.inl ?_)
  · intro g x
    have h0 : (colRect g).emb x = ix2 (x 0) (colOf g (x 1)) := by
      funext a; apply Fin.ext
      match a with
      | ⟨0, _⟩ => show 0 + 1 * (x 0).val = (x 0).val; omega
      | ⟨1, _⟩ => show 128 * g.val + 1 * (x 1).val = 128 * g.val + (x 1).val; omega
    have hl : (x 1).val < 128 := (x 1).isLt
    have h1 : grpOf (colOf g (x 1)) = g := Fin.ext (by show (128 * g.val + (x 1).val) / 128 = g.val; omega)
    have h2 : laneOf (colOf g (x 1)) = x 1 := Fin.ext (by show (128 * g.val + (x 1).val) % 128 = (x 1).val; omega)
    rw [h0]
    show codesOf (ld X (colRect (grpOf (colOf g (x 1))))) (ix2 (x 0) (laneOf (colOf g (x 1)))) = _
    rw [h1, h2]
    exact congrArg _ (eq_ix2 x).symm
  · have hp0 : (p 0).val < 192 := (p 0).isLt
    have hp1 : (p 1).val < 5248 := (p 1).isLt
    refine ⟨grpOf (p 1), mem_groups _, ?_⟩
    rw [Rect.mem_set_unit]
    intro a
    match a with
    | ⟨0, _⟩ => show 0 ≤ (p 0).val ∧ (p 0).val < 0 + 192; omega
    | ⟨1, _⟩ => show 128 * ((p 1).val / 128) ≤ (p 1).val ∧ (p 1).val < 128 * ((p 1).val / 128) + 128; omega

theorem quantPlanes_eq (X : S192x5248.Idx → Elt F .bf16) (Z : S41x192x128.Idx → Elt F .f32) :
    quantPlanes X groups Z = planesT X := by
  funext p
  refine foldl_overlay planeRect (fun g => shapeCast S1x192x128 (wideScale (ld X (colRect g))) shapeCasts_S192x128_S1x192x128)
    (planesT X) ?_ groups Z p (Or.inl ?_)
  · intro g x
    have hx0 : (x 0).val < 1 := (x 0).isLt
    have h0 : (planeRect g).emb x = ix3 g (x 1) (x 2) := by
      funext a; apply Fin.ext
      match a with
      | ⟨0, _⟩ => show g.val + 1 * (x 0).val = g.val; omega
      | ⟨1, _⟩ => show 0 + 1 * (x 1).val = (x 1).val; omega
      | ⟨2, _⟩ => show 0 + 1 * (x 2).val = (x 2).val; omega
    rw [h0]
    refine Eq.symm ((congrArg _ (eq_ix3 x)).trans ?_)
    exact shapeCast_ab_1ab_apply _ _ (x 0) (x 1) (x 2)
  · have hp0 : (p 0).val < 41 := (p 0).isLt
    have hp1 : (p 1).val < 192 := (p 1).isLt
    have hp2 : (p 2).val < 128 := (p 2).isLt
    refine ⟨p 0, mem_groups _, ?_⟩
    rw [Rect.mem_set_unit]
    intro a
    match a with
    | ⟨0, _⟩ => show (p 0).val ≤ (p 0).val ∧ (p 0).val < (p 0).val + 1; omega
    | ⟨1, _⟩ => show 0 ≤ (p 1).val ∧ (p 1).val < 0 + 192; omega
    | ⟨2, _⟩ => show 0 ≤ (p 2).val ∧ (p 2).val < 0 + 128; omega

/-- A packing step at a lane. -/
theorem packStep_apply (g : Fin 41) (v : Vec F S192x128 .bf16) (packed : FVec F S192x128 .f32) (r : Fin 192) (l : Fin 128) :
    packStep g v packed (ix2 r l) = if g.val = l.val then wideScale v (ix2 r l) else packed (ix2 r l) := by
  have h : packStep g v packed (ix2 r l) = Scalar.select (IntOp.cmpi .eq (BitVec.ofNat 32 (0 * 128 + l.val)) (BitVec.ofNat 32 g.val))
      (wideScale v (ix2 r l)) (packed (ix2 r l)) := rfl
  rw [h, Nat.zero_mul, Nat.zero_add]
  have hg := g.isLt
  have hl := l.isLt
  by_cases e : g.val = l.val
  · rw [if_pos e, e]; simp [IntOp.cmpi, Scalar.select]
  · rw [if_neg e]
    have hne : ¬ BitVec.ofNat 32 l.val = BitVec.ofNat 32 g.val := fun hh => e (by
      have := congrArg BitVec.toNat hh
      simp only [BitVec.toNat_ofNat] at this
      omega)
    have hb : (BitVec.ofNat 32 l.val == BitVec.ofNat 32 g.val) = false := beq_eq_false_iff_ne.mpr hne
    simp only [IntOp.cmpi, Scalar.select, hb]
    rfl

theorem quantPacked_apply (X : S192x5248.Idx → Elt F .bf16) (packed : FVec F S192x128 .f32) (r : Fin 192) (g : Fin 41) :
    quantPacked X groups packed (ix2 r ⟨g.val, by omega⟩) = wideScale (ld X (colRect g)) (ix2 r ⟨g.val, by omega⟩) := by
  refine foldl_select (fun g P => packStep g (ld X (colRect g)) P) _ _ (fun g' => g' = g) ?_ ?_ groups packed
    (Or.inl ⟨g, mem_groups _, rfl⟩)
  · rintro g' P rfl
    exact (packStep_apply _ _ _ _ _).trans (if_pos rfl)
  · intro g' P hne
    exact (packStep_apply _ _ _ _ _).trans (if_neg fun h => hne (Fin.ext h))

theorem scalesBlock_eq (X : S192x5248.Idx → Elt F .bf16) (P : S192x41.Idx → Elt F .f32) :
    scalesBlock (quantPacked X groups packed0) P = scalesT X := by
  funext p
  have hp0 : (p 0).val < 192 := (p 0).isLt
  have hp1 : (p 1).val < 41 := (p 1).isLt
  have hemb : (Rect.unit (s := S192x41) ![0, 0] S192x41.size inb_S192x41_S192x41_0_0).emb p = p := by
    funext a; apply Fin.ext
    match a with
    | ⟨0, _⟩ => show 0 + 1 * (p 0).val = (p 0).val; omega
    | ⟨1, _⟩ => show 0 + 1 * (p 1).val = (p 1).val; omega
  refine (overlay_at _ P _ p p hemb).trans ?_
  refine (extractStridedSlice_apply _ _ _ p (ix2 (p 0) ⟨(p 1).val, by omega⟩) (fun a => ?_)).trans
    (quantPacked_apply X packed0 (p 0) (p 1))
  match a with
  | ⟨0, _⟩ => exact (Nat.zero_add _).symm
  | ⟨1, _⟩ => exact (Nat.zero_add _).symm

/-- The result's block at the left half's columns. -/
theorem outBlock_left (acc : FVec F S192x128 .f32 × FVec F S192x128 .f32) (O : S192x256.Idx → Elt F .bf16) (r : Fin 192)
    (l : Fin 128) : outBlock acc O (ix2 r ⟨l.val, by omega⟩) = truncf .bf16 acc.1 bitsLt_bf16_f32 (ix2 r l) := by
  unfold outBlock
  rw [Rect.overlay_of_not_mem]
  · have hemb : (Rect.unit (s := S192x256) ![0, 0] S192x128.size inb_S192x256_S192x128_0_0).emb (ix2 r l) = ix2 r ⟨l.val, by omega⟩ := by
      funext a; apply Fin.ext
      match a with
      | ⟨0, _⟩ => show 0 + 1 * r.val = r.val; omega
      | ⟨1, _⟩ => show 0 + 1 * l.val = l.val; omega
    exact overlay_at (Rect.unit (s := S192x256) ![0, 0] S192x128.size inb_S192x256_S192x128_0_0) O _ (ix2 r l) _ hemb
  · rw [Rect.mem_set_unit]
    intro h
    have := (h 1).1
    have h2 : 128 ≤ l.val := this
    omega

/-- The result's block at the right half's columns. -/
theorem outBlock_right (acc : FVec F S192x128 .f32 × FVec F S192x128 .f32) (O : S192x256.Idx → Elt F .bf16) (r : Fin 192)
    (l : Fin 128) : outBlock acc O (ix2 r ⟨128 + l.val, by omega⟩) = truncf .bf16 acc.2 bitsLt_bf16_f32 (ix2 r l) := by
  unfold outBlock
  have hemb : (Rect.unit (s := S192x256) ![0, 128] S192x128.size inb_S192x256_S192x128_0_128).emb (ix2 r l) = ix2 r ⟨128 + l.val, by omega⟩ := by
    funext a; apply Fin.ext
    match a with
    | ⟨0, _⟩ => show 0 + 1 * r.val = r.val; omega
    | ⟨1, _⟩ => show 128 + 1 * l.val = 128 + l.val; omega
  exact overlay_at (Rect.unit (s := S192x256) ![0, 128] S192x128.size inb_S192x256_S192x128_0_128) _ _ (ix2 r l) _ hemb

end Cert.Body

end
-- ==== Proof.Scale.lean ====
/-
  The scale of one group, at the ideal values. The kernel finds the exponent field of a magnitude by counting how many
  powers of two are at most it and shifts that count back into a word; the reference takes the floor of the logarithm and
  raises two to it. For a magnitude below `2 ^ 120` the two scales, and the two reciprocals, are the same real.
-/
module

public import proofs.«01_k».proof.Proof.Body
public import Idealize.ShloMosaic.PureOps.Ideal.Laws
public import Mathlib.Data.Fintype.Fin
import Mathlib.Tactic.NormNum
import Mathlib.Tactic.Positivity
import Mathlib.Tactic.Ring

@[expose] public section

noncomputable section

namespace Cert.Scale

open Idealize.ShloMosaic

/-! ## Words that are powers of two -/

/-- The float whose exponent field is `k` and whose other bits are zero. -/
def pw (k : ℕ) : EReal := Ideal.ofBits .f32 (BitVec.ofNat 32 k <<< 23)

theorem word_fields : ∀ k : Fin 256, (BitVec.ofNat 32 k.val <<< 23).extractLsb' 31 1 = 0#1
    ∧ ((BitVec.ofNat 32 k.val <<< 23).extractLsb' 23 8).toNat = k.val
    ∧ ((BitVec.ofNat 32 k.val <<< 23).extractLsb' 0 23).toNat = 0 := by
  decide +kernel

theorem pw_real (k : ℕ) (h1 : 1 ≤ k) (h2 : k ≤ 254) : pw k = (((2 : ℝ) ^ ((k : ℤ) - 127) : ℝ) : EReal) := by
  obtain ⟨e1, e2, e3⟩ := word_fields ⟨k, by omega⟩
  simp only at e1 e2 e3
  unfold pw Ideal.ofBits Ideal.ieee
  simp only [Nat.reduceAdd, e1, e2, e3]
  rw [if_neg (by norm_num; omega), if_neg (by omega)]
  rw [EReal.coe_eq_coe_iff]
  simp only [show ((0#1 : BitVec 1) == 1#1) = false from rfl, Bool.false_eq_true, if_false, one_mul]
  norm_num
  rw [show (8388608 : ℝ) = (2 : ℝ) ^ (23 : ℤ) by norm_num, ← zpow_add₀ (by norm_num : (2 : ℝ) ≠ 0)]
  refine congrArg (fun z : ℤ => (2 : ℝ) ^ z) ?_
  omega

theorem pw_top : pw 255 = ⊤ := by
  obtain ⟨e1, e2, e3⟩ := word_fields ⟨255, by omega⟩
  simp only at e1 e2 e3
  unfold pw Ideal.ofBits Ideal.ieee
  simp only [Nat.reduceAdd, e1, e2, e3]
  rfl

/-! ## The count of the powers at most a value -/

/-- The floor of the logarithm to base two. -/
def log2 (r : ℝ) : ℤ := ⌊Real.log r * (Real.log 2)⁻¹⌋

theorem zpow_le_iff (x : ℤ) (r : ℝ) (hr : 0 < r) : (2 : ℝ) ^ x ≤ r ↔ x ≤ log2 r := by
  have hl2 : 0 < Real.log 2 := Real.log_pos (by norm_num)
  unfold log2
  rw [Int.le_floor, ← div_eq_mul_inv, le_div_iff₀ hl2, ← Real.log_zpow, Real.log_le_log_iff (by positivity) hr]

theorem lt_zpow_iff (x : ℤ) (r : ℝ) (hr : 0 < r) : r < (2 : ℝ) ^ x ↔ log2 r < x := by
  rw [← not_le, zpow_le_iff x r hr, not_le]

/-- How many of the powers with exponent fields 1 to 255 are at most `v`. -/
def count (v : EReal) : ℕ := by
  classical exact (Finset.univ.filter fun j : Fin 255 => pw (j.val + 1) ≤ v).card

theorem count_le (v : EReal) : count v ≤ 255 := by
  classical
  unfold count
  exact (Finset.card_le_univ _).trans (by simp)

theorem pw_le_iff (r : ℝ) (hr : 0 < r) (hr' : r < (2 : ℝ) ^ (120 : ℤ)) (j : Fin 255) :
    pw (j.val + 1) ≤ (r : EReal) ↔ (j.val : ℤ) + 1 - 127 ≤ log2 r := by
  have hlog : log2 r < 120 := (lt_zpow_iff 120 r hr).1 hr'
  rcases Nat.lt_or_ge j.val 254 with h | h
  · rw [pw_real (j.val + 1) (by omega) (by omega), EReal.coe_le_coe_iff]
    have := zpow_le_iff (((j.val + 1 : ℕ) : ℤ) - 127) r hr
    push_cast at this ⊢
    exact this
  · have hj : j.val + 1 = 255 := by have := j.isLt; omega
    rw [hj, pw_top]
    constructor
    · intro h'
      exact absurd h' (not_le.mpr (EReal.coe_lt_top r))
    · intro h'
      have : (j.val : ℤ) + 1 = 255 := by exact_mod_cast hj
      omega

theorem count_small (r : ℝ) (h0 : 0 ≤ r) (hr : r < (2 : ℝ) ^ (-126 : ℤ)) : count (r : EReal) = 0 := by
  classical
  unfold count
  rw [Finset.card_eq_zero, Finset.filter_eq_empty_iff]
  intro j _
  rcases h0.eq_or_lt with h0 | h0
  · subst h0
    rw [not_le]
    rcases Nat.lt_or_ge j.val 254 with h | h
    · rw [pw_real (j.val + 1) (by omega) (by omega), EReal.coe_lt_coe_iff]; positivity
    · rw [show j.val + 1 = 255 by have := j.isLt; omega, pw_top]; exact EReal.coe_lt_top _
  · rw [pw_le_iff r h0 (hr.trans (by norm_num))]
    have := (lt_zpow_iff (-126) r h0).1 hr
    omega

theorem count_normal (r : ℝ) (h1 : (2 : ℝ) ^ (-126 : ℤ) ≤ r) (h2 : r < (2 : ℝ) ^ (120 : ℤ)) :
    (count (r : EReal) : ℤ) = log2 r + 127 ∧ -126 ≤ log2 r ∧ log2 r < 120 := by
  classical
  have hr : 0 < r := lt_of_lt_of_le (by positivity) h1
  have hlo := (zpow_le_iff (-126) r hr).1 h1
  have hhi := (lt_zpow_iff 120 r hr).1 h2
  refine ⟨?_, hlo, hhi⟩
  obtain ⟨n, hn⟩ : ∃ n : ℕ, log2 r + 127 = n := ⟨(log2 r + 127).toNat, by omega⟩
  unfold count
  rw [show (Finset.univ.filter fun j : Fin 255 => pw (j.val + 1) ≤ (r : EReal))
      = Finset.univ.filter fun j : Fin 255 => j.val < n from
    Finset.filter_congr fun j _ => by rw [pw_le_iff r hr h2]; omega]
  rw [Fin.card_filter_val_lt, hn]
  congr 1
  omega

/-! ## The kernel's scale and reciprocal, from the count's word -/

/-- Whether an exponent field is neither 0 nor 255. -/
def normalW (f : BitVec 32) : BitVec 1 := IntOp.andi (IntOp.cmpi .ne f 0#32) (IntOp.cmpi .ne f 255#32)

/-- The word of the scale. -/
def scaleW (f : BitVec 32) : BitVec 32 :=
  Scalar.select (normalW f) (IntOp.shli .vector (IntOp.addi f 1#32) 23#32) 1065353216#32

/-- The word of the reciprocal. -/
def invW (f : BitVec 32) : BitVec 32 :=
  Scalar.select (normalW f) (IntOp.shli .vector (IntOp.subi 253#32 f) 23#32) 1065353216#32

theorem words : ∀ k : Fin 247, scaleW (BitVec.ofNat 32 k.val) = BitVec.ofNat 32 (if k.val = 0 then 127 else k.val + 1) <<< 23
    ∧ invW (BitVec.ofNat 32 k.val) = BitVec.ofNat 32 (if k.val = 0 then 127 else 253 - k.val) <<< 23 := by
  decide +kernel

/-- The kernel's scale of a magnitude. -/
def kScale (v : EReal) : EReal := Ideal.ofBits .f32 (scaleW (BitVec.ofNat 32 (count v)))
/-- The kernel's reciprocal of the scale. -/
def kInv (v : EReal) : EReal := Ideal.ofBits .f32 (invW (BitVec.ofNat 32 (count v)))

/-! ## The reference's exponent -/

/-- The reference's exponent of a magnitude: zero where it is subnormal, else the floor of its logarithm plus one. -/
def rExp (v : EReal) : EReal :=
  Scalar.select (Ideal.cmp .olt v (Ideal.ofBits .f32 0x00800000#32)) (Ideal.ofBits .f32 0x00000000#32)
    (Ideal.liftRound Int.floor (Ideal.div (Ideal.log v) (Ideal.log (Ideal.ofBits .f32 0x40000000#32)))
      + Ideal.ofBits .f32 0x3F800000#32)

theorem word_min : Ideal.ofBits .f32 0x00800000#32 = (((2 : ℝ) ^ (-126 : ℤ) : ℝ) : EReal) := pw_real 1 (by omega) (by omega)
theorem word_one : Ideal.ofBits .f32 0x3F800000#32 = ((1 : ℝ) : EReal) := by
  have := pw_real 127 (by omega) (by omega)
  norm_num at this
  exact this
theorem word_two : Ideal.ofBits .f32 0x40000000#32 = ((2 : ℝ) : EReal) := by
  have := pw_real 128 (by omega) (by omega)
  norm_num at this
  exact this
theorem word_zero : Ideal.ofBits .f32 0x00000000#32 = ((0 : ℝ) : EReal) := by
  simp [Ideal.ofBits, Ideal.ieee]

theorem rExp_small (r : ℝ) (hr : r < (2 : ℝ) ^ (-126 : ℤ)) : rExp (r : EReal) = ((0 : ℝ) : EReal) := by
  unfold rExp
  rw [word_min]
  have : Ideal.cmp .olt (r : EReal) (((2 : ℝ) ^ (-126 : ℤ) : ℝ) : EReal) = 1#1 := by
    unfold Ideal.cmp
    rw [decide_eq_true (EReal.coe_lt_coe_iff.2 hr)]; rfl
  rw [this, word_zero]
  rfl

theorem rExp_normal (r : ℝ) (hr : (2 : ℝ) ^ (-126 : ℤ) ≤ r) : rExp (r : EReal) = (((log2 r + 1 : ℤ) : ℝ) : EReal) := by
  have h0 : 0 < r := lt_of_lt_of_le (by positivity) hr
  unfold rExp
  rw [word_min]
  have : Ideal.cmp .olt (r : EReal) (((2 : ℝ) ^ (-126 : ℤ) : ℝ) : EReal) = 0#1 := by
    unfold Ideal.cmp
    rw [decide_eq_false (fun h => absurd (EReal.coe_lt_coe_iff.1 h) (not_lt.2 hr))]; rfl
  rw [this, word_two, word_one]
  have hsel : ∀ a b : EReal, Scalar.select 0#1 a b = b := fun _ _ => rfl
  rw [hsel, Ideal.log_coe, Ideal.log_coe, if_neg (not_le.2 h0), if_neg (by norm_num)]
  have hl2 : (Real.log 2 : ℝ) ≠ 0 := (Real.log_pos (by norm_num)).ne'
  have hd : Ideal.div (Real.log r : EReal) (Real.log 2 : EReal) = ((Real.log r * (Real.log 2)⁻¹ : ℝ) : EReal) := by
    unfold Ideal.div
    rw [if_neg (by exact_mod_cast hl2), ← EReal.coe_inv, ← EReal.coe_mul]
  rw [hd, Ideal.liftRound_coe, ← EReal.coe_add]
  unfold log2
  push_cast
  rfl

/-! ## The two agree -/

theorem kScale_eq (r : ℝ) (h0 : 0 ≤ r) (h : r < (2 : ℝ) ^ (120 : ℤ)) : kScale (r : EReal) = Ideal.exp2 (rExp (r : EReal)) := by
  unfold kScale
  rcases lt_or_ge r ((2 : ℝ) ^ (-126 : ℤ)) with hs | hn
  · rw [count_small r h0 hs, rExp_small r hs, Ideal.exp2_coe]
    have hw : scaleW (BitVec.ofNat 32 0) = BitVec.ofNat 32 127 <<< 23 := (words 0).1
    rw [hw]
    refine (pw_real 127 (by omega) (by omega)).trans ?_
    norm_num
  · obtain ⟨hc, hlo, hhi⟩ := count_normal r hn h
    have hk : count (r : EReal) < 247 := by omega
    have hw := (words ⟨count (r : EReal), hk⟩).1
    simp only at hw
    rw [hw, if_neg (by omega), rExp_normal r hn, Ideal.exp2_coe]
    refine (pw_real (count (r : EReal) + 1) (by omega) (by omega)).trans ?_
    congr 1
    rw [show Real.rpow 2 ((log2 r + 1 : ℤ) : ℝ) = (2 : ℝ) ^ (log2 r + 1) from Real.rpow_intCast 2 _]
    congr 1
    push_cast
    omega

theorem kInv_eq (r : ℝ) (h0 : 0 ≤ r) (h : r < (2 : ℝ) ^ (120 : ℤ)) :
    kInv (r : EReal) = Ideal.exp2 (Ideal.ofBits .f32 0x00000000#32 - rExp (r : EReal)) := by
  unfold kInv
  rw [word_zero]
  rcases lt_or_ge r ((2 : ℝ) ^ (-126 : ℤ)) with hs | hn
  · rw [count_small r h0 hs, rExp_small r hs, ← EReal.coe_sub, Ideal.exp2_coe]
    have hw : invW (BitVec.ofNat 32 0) = BitVec.ofNat 32 127 <<< 23 := (words 0).2
    rw [hw]
    refine (pw_real 127 (by omega) (by omega)).trans ?_
    norm_num
  · obtain ⟨hc, hlo, hhi⟩ := count_normal r hn h
    have hk : count (r : EReal) < 247 := by omega
    have hw := (words ⟨count (r : EReal), hk⟩).2
    simp only at hw
    rw [hw, if_neg (by omega), rExp_normal r hn, ← EReal.coe_sub, Ideal.exp2_coe]
    refine (pw_real (253 - count (r : EReal)) (by omega) (by omega)).trans ?_
    congr 1
    rw [show ((0 : ℝ) - ((log2 r + 1 : ℤ) : ℝ)) = ((-(log2 r + 1) : ℤ) : ℝ) by push_cast; ring]
    rw [show Real.rpow 2 ((-(log2 r + 1) : ℤ) : ℝ) = (2 : ℝ) ^ (-(log2 r + 1)) from Real.rpow_intCast 2 _]
    congr 1
    omega

/-! ## A group's magnitude is in range -/

theorem word_max : Ideal.ofBits .bf16 0x7F7F#16 = ((255 * (2 : ℝ) ^ (120 : ℤ) : ℝ) : EReal) := by
  simp [Ideal.ofBits, Ideal.ieee]

theorem word_rcp : Ideal.ofBits .f32 0x3B124925#32 = ((9586981 * (2 : ℝ) ^ (-32 : ℤ) : ℝ) : EReal) := by
  simp [Ideal.ofBits, Ideal.ieee]

/-- A magnitude that is not negative and at most the largest bf16, times `1 / 448`, is a real in range. -/
theorem in_range (a : EReal) (h0 : 0 ≤ a) (h1 : a ≤ Ideal.ofBits .bf16 0x7F7F#16) :
    ∃ r : ℝ, a * Ideal.ofBits .f32 0x3B124925#32 = (r : EReal) ∧ 0 ≤ r ∧ r < (2 : ℝ) ^ (120 : ℤ) := by
  rw [word_max] at h1
  have ht : a ≠ ⊤ := fun h => by rw [h, top_le_iff] at h1; exact EReal.coe_ne_top _ h1
  have hb : a ≠ ⊥ := fun h => by rw [h] at h0; exact absurd h0 (by simp)
  lift a to ℝ using ⟨ht, hb⟩
  rw [EReal.coe_le_coe_iff] at h1
  have h0' : 0 ≤ a := by exact_mod_cast h0
  refine ⟨a * (9586981 * (2 : ℝ) ^ (-32 : ℤ)), ?_, by positivity, ?_⟩
  · rw [word_rcp, ← EReal.coe_mul]
  · have : a * (9586981 * (2 : ℝ) ^ (-32 : ℤ)) ≤ (255 * (2 : ℝ) ^ (120 : ℤ)) * (9586981 * (2 : ℝ) ^ (-32 : ℤ)) :=
      mul_le_mul_of_nonneg_right h1 (by positivity)
    refine lt_of_le_of_lt this ?_
    norm_num

theorem kScale_of_range (a : EReal) (h0 : 0 ≤ a) (h1 : a ≤ Ideal.ofBits .bf16 0x7F7F#16) :
    kScale (a * Ideal.ofBits .f32 0x3B124925#32) = Ideal.exp2 (rExp (a * Ideal.ofBits .f32 0x3B124925#32)) := by
  obtain ⟨r, hr, h2, h3⟩ := in_range a h0 h1
  rw [hr]; exact kScale_eq r h2 h3

theorem kInv_of_range (a : EReal) (h0 : 0 ≤ a) (h1 : a ≤ Ideal.ofBits .bf16 0x7F7F#16) :
    kInv (a * Ideal.ofBits .f32 0x3B124925#32)
      = Ideal.exp2 (Ideal.ofBits .f32 0x00000000#32 - rExp (a * Ideal.ofBits .f32 0x3B124925#32)) := by
  obtain ⟨r, hr, h2, h3⟩ := in_range a h0 h1
  rw [hr]; exact kInv_eq r h2 h3

end Cert.Scale

end
-- ==== Proof.Point.lean ====
/-
  The body's values for one group, at the ideal values, read at a row and a lane: the magnitude is a supremum over the
  group's lanes, the exponent field a count, the scale and its reciprocal those of `Scale.lean`, the product a sum.
-/
module

public import proofs.«01_k».proof.Proof.Folds
public import proofs.«01_k».proof.Proof.Scale
public import Idealize.ShloMosaic.Lib.ValueLayoutCasts
public import Idealize.ShloMosaic.Lib.MatmulPlain
public import Idealize.ShloMosaic.Lib.Pipeline.Value
public import Idealize.ShloMosaic.PureOps.Reduce

@[expose] public section

noncomputable section

namespace Cert.Scale

open Idealize.ShloMosaic Idealize.ShloMosaic.ValueIdx

/-- The largest magnitude of a group's lanes. -/
def amax (f : Fin 128 → EReal) : EReal := Finset.univ.sup fun l => max (f l) (-(f l))

/-- The magnitude a group is scaled by: the largest one times `1 / 448`. -/
def mag (f : Fin 128 → EReal) : EReal := amax f * Ideal.ofBits .f32 0x3B124925#32

/-- A value times a reciprocal scale, clamped to the codes' range. -/
def code (x inv : EReal) : EReal :=
  min (Ideal.ofBits .f32 0x43E00000#32) (max (Ideal.ofBits .f32 0xC3E00000#32) (x * inv))

theorem word_bot : Ideal.ofBits .f32 0xFF800000#32 = ⊥ := by
  simp [Ideal.ofBits, Ideal.ieee]

theorem amax_nonneg (f : Fin 128 → EReal) : 0 ≤ amax f := by
  refine le_trans ?_ (Finset.le_sup (f := fun l => max (f l) (-(f l))) (Finset.mem_univ (0 : Fin 128)))
  rcases le_total 0 (f 0) with h | h
  · exact le_max_of_le_left h
  · refine le_max_of_le_right ?_
    simpa using EReal.neg_le_neg_iff.2 h

theorem amax_le (f : Fin 128 → EReal) (M : EReal) (h : ∀ l, max (f l) (-(f l)) ≤ M) : amax f ≤ M :=
  Finset.sup_le fun l _ => h l

/-- A fold by maximum over a set listed by `e`. -/
theorem fold_max {σ : Type} [DecidableEq σ] (S : Finset σ) (e : Fin 128 → σ) (hS : S = Finset.univ.image e) (x : σ → EReal) :
    S.fold max ⊥ x = Finset.univ.sup fun l => x (e l) := by
  subst hS
  show (Finset.univ.image e).sup x = _
  rw [Finset.sup_image]; rfl

/-- A fold that adds one at every member where `p` holds is their number. -/
theorem fold_count {σ : Type} [DecidableEq σ] (S : Finset σ) (p : σ → Prop) [DecidablePred p] :
    S.fold (IntOp.addi (w := 32)) 0#32 (fun i => if p i then 1#32 else 0#32) = BitVec.ofNat 32 (S.filter p).card := by
  induction S using Finset.induction with
  | empty => rfl
  | insert a S ha ih =>
    rw [Finset.fold_insert ha, ih, Finset.filter_insert]
    by_cases hp : p a
    · rw [if_pos hp, if_pos hp, Finset.card_insert_of_notMem (fun h => ha (Finset.mem_filter.1 h).1)]
      show 1#32 + _ = _
      rw [Nat.add_comm, BitVec.ofNat_add]
    · rw [if_neg hp, if_neg hp]
      show 0#32 + _ = _
      rw [BitVec.zero_add]

end Cert.Scale

namespace Cert.Body

open Idealize.ShloMosaic Idealize.ShloMosaic.ValueIdx
open Cert.KernelIdeal Cert.KernelIdeal.Facts Cert.KernelIdeal.Facts₀

/-- The indices a row's reduction over 128 lanes runs over. -/
theorem row_fiber (r : Fin 192) : (Finset.univ.filter fun i : S192x128.Idx => reduces_S192x128_S192.drop i = ix1 r)
    = Finset.univ.image fun l : Fin 128 => (ix2 r l : S192x128.Idx) := by
  ext i
  simp only [Finset.mem_filter, Finset.mem_univ, true_and, Finset.mem_image]
  have hd := Shape.Reduces.drop_apply_val_of_eq reduces_S192x128_S192 i 0 0
  constructor
  · intro h
    refine ⟨i 1, ?_⟩
    rw [h] at hd
    conv_rhs => rw [eq_ix2 i]
    exact congrArg (fun a => ix2 a (i 1)) (Fin.ext hd)
  · rintro ⟨l, rfl⟩
    funext a
    match a with
    | ⟨0, _⟩ => exact Fin.ext hd

/-- The indices a row's reduction over the 255 powers runs over. -/
theorem count_fiber (r : Fin 192) : (Finset.univ.filter fun i : S192x255.Idx => reduces_S192x255_S192.drop i = ix1 r)
    = Finset.univ.image fun l : Fin 255 => (ix2 r l : S192x255.Idx) := by
  ext i
  simp only [Finset.mem_filter, Finset.mem_univ, true_and, Finset.mem_image]
  have hd := Shape.Reduces.drop_apply_val_of_eq reduces_S192x255_S192 i 0 0
  constructor
  · intro h
    refine ⟨i 1, ?_⟩
    rw [h] at hd
    conv_rhs => rw [eq_ix2 i]
    exact congrArg (fun a => ix2 a (i 1)) (Fin.ext hd)
  · rintro ⟨l, rfl⟩
    funext a
    match a with
    | ⟨0, _⟩ => exact Fin.ext hd

theorem wideX_apply (v : Vec Ideal S192x128 .bf16) (r : Fin 192) (l : Fin 128) : wideX v (ix2 r l) = v (ix2 r l) := by
  show shapeCast S192x128 v shapeCasts_S192x128_S192x128 (ix2 r l) = _
  exact shapeCast_apply _ _ _ _ rfl

theorem amaxV_apply (v : Vec Ideal S192x128 .bf16) (r : Fin 192) (u : Fin 1) :
    amaxV v (ix2 r u) = Scale.mag fun l => v (ix2 r l) := by
  unfold amaxV Scale.mag
  show shapeCast S192x1 _ shapeCasts_S192_S192x1 (ix2 r u) * Ideal.ofBits .f32 0x3B124925#32 = _
  refine congrArg (· * Ideal.ofBits .f32 0x3B124925#32) ?_
  rw [shapeCast_a_a1_apply]
  show reduceFold reduces_S192x128_S192 max (Ideal.ofBits .f32 0xFF800000#32) (absf (wideX v)) (ix1 r) = _
  rw [Scale.word_bot, reduceFold_eq_fold, Scale.fold_max _ _ (row_fiber r)]
  refine Finset.sup_congr rfl fun l _ => ?_
  show max (wideX v (ix2 r l)) (-(wideX v (ix2 r l))) = _
  rw [wideX_apply]

theorem powers_word : ∀ j : Fin 255, IntOp.shli .vector (IntOp.addi (BitVec.ofNat 32 (0 * 255 + j.val)) 1#32) 23#32
    = BitVec.ofNat 32 (j.val + 1) <<< 23 := by
  decide +kernel

theorem powers_apply (r : Fin 192) (j : Fin 255) : (powers (F := Ideal)) (ix2 r j) = Scale.pw (j.val + 1) := by
  show Ideal.ofBits .f32 (IntOp.shli .vector (IntOp.addi (BitVec.ofNat 32 (0 * 255 + j.val)) 1#32) 23#32) = _
  rw [powers_word]; rfl

theorem field_apply (v : Vec Ideal S192x128 .bf16) (r : Fin 192) (u : Fin 1) :
    field v (ix2 r u) = BitVec.ofNat 32 (Scale.count (Scale.mag fun l => v (ix2 r l))) := by
  classical
  unfold field
  rw [shapeCast_a_a1_apply]
  show reduceFold reduces_S192x255_S192 IntOp.addi 0#32
    (select (cmpf .oge (broadcastTo S192x255 (amaxV v) broadcasts_S192x1_S192x255) powers)
      (broadcast S192x255 1#32) (broadcast S192x255 0#32) : S192x255.Idx → BitVec 32) (ix1 r) = _
  rw [reduceFold_eq_fold]
  have hx : (select (cmpf .oge (broadcastTo S192x255 (amaxV v) broadcasts_S192x1_S192x255) powers)
      (broadcast S192x255 1#32) (broadcast S192x255 0#32) : S192x255.Idx → BitVec 32)
      = fun i => if Scale.pw ((i 1).val + 1) ≤ Scale.mag (fun l => v (ix2 (i 0) l)) then 1#32 else 0#32 := by
    funext i
    obtain ⟨a, b, rfl⟩ : ∃ a b, i = ix2 a b := ⟨i 0, i 1, eq_ix2 i⟩
    have hb : broadcastTo S192x255 (amaxV v) broadcasts_S192x1_S192x255 (ix2 a b) = Scale.mag fun l => v (ix2 a l) := by
      refine (broadcastTo_apply _ _ _ (ix2 a (0 : Fin 1)) (fun c => ?_)).trans (amaxV_apply v a 0)
      match c with
      | ⟨0, _⟩ => rfl
      | ⟨1, _⟩ => rfl
    show Scalar.select (Ideal.cmp .oge (broadcastTo S192x255 (amaxV v) broadcasts_S192x1_S192x255 (ix2 a b)) (powers (F := Ideal) (ix2 a b))) 1#32 0#32 = _
    rw [hb, powers_apply]
    show _ = if Scale.pw (b.val + 1) ≤ Scale.mag (fun l => v (ix2 a l)) then 1#32 else 0#32
    unfold Ideal.cmp Scalar.select
    by_cases h : Scale.pw (b.val + 1) ≤ Scale.mag (fun l => v (ix2 a l))
    · rw [if_pos h, decide_eq_true h]; rfl
    · rw [if_neg h, decide_eq_false h]; rfl
  rw [hx, count_fiber, Scale.fold_count]
  refine congrArg (BitVec.ofNat 32) ?_
  rw [Finset.filter_image, Finset.card_image_of_injective]
  · unfold Scale.count
    congr 1
  · intro a b h
    exact congrFun h 1

theorem scaleOf_apply (v : Vec Ideal S192x128 .bf16) (r : Fin 192) (u : Fin 1) :
    scaleOf v (ix2 r u) = Scale.kScale (Scale.mag fun l => v (ix2 r l)) := by
  show Ideal.ofBits .f32 (Scale.scaleW (field v (ix2 r u))) = _
  rw [field_apply]; rfl

theorem invOf_apply (v : Vec Ideal S192x128 .bf16) (r : Fin 192) (u : Fin 1) :
    invOf v (ix2 r u) = Scale.kInv (Scale.mag fun l => v (ix2 r l)) := by
  show Ideal.ofBits .f32 (Scale.invW (field v (ix2 r u))) = _
  rw [field_apply]; rfl

theorem wideScale_apply (v : Vec Ideal S192x128 .bf16) (r : Fin 192) (l : Fin 128) :
    wideScale v (ix2 r l) = Scale.kScale (Scale.mag fun l => v (ix2 r l)) := by
  unfold wideScale
  refine (broadcastTo_apply _ _ _ (ix2 r (0 : Fin 1)) (fun c => ?_)).trans ?_
  · match c with
    | ⟨0, _⟩ => rfl
    | ⟨1, _⟩ => rfl
  · exact (shapeCast_apply _ _ _ (ix2 r (0 : Fin 1)) rfl).trans (scaleOf_apply v r 0)

theorem codesOf_apply (v : Vec Ideal S192x128 .bf16) (r : Fin 192) (l : Fin 128) :
    codesOf v (ix2 r l) = Scale.code (v (ix2 r l)) (Scale.kInv (Scale.mag fun l => v (ix2 r l))) := by
  show Scale.code (wideX v (ix2 r l)) (broadcastTo S192x128 (invOf v) broadcasts_S192x1_S192x128 (ix2 r l)) = _
  rw [wideX_apply]
  refine congrArg (Scale.code (v (ix2 r l))) ?_
  refine (broadcastTo_apply _ _ _ (ix2 r (0 : Fin 1)) (fun c => ?_)).trans (invOf_apply v r 0)
  match c with
  | ⟨0, _⟩ => rfl
  | ⟨1, _⟩ => rfl

/-- One group's term of one half's accumulator. -/
theorem accHalf_apply (o : ℕ) (ho : o + 128 ≤ 256) (hs : S192x256.Slices ![0, o] S192x128) (xc : Vec Ideal S192x128 .fp8e4m3)
    (w : Vec Ideal S128x256 .fp8e4m3) (xs : Vec Ideal S1x192x128 .f32) (ws : Elt Ideal .f32) (acc : FVec Ideal S192x128 .f32)
    (r : Fin 192) (l : Fin 128) :
    accHalf ![0, o] hs xc w xs ws acc (ix2 r l)
      = acc (ix2 r l) + (∑ k : Fin 128, xc (ix2 r k) * w (ix2 k ⟨o + l.val, by omega⟩)) * xs (ix3 0 r l) * ws := by
  show acc (ix2 r l) + (extractStridedSlice S192x128 ![0, o] (matmul dot_S192x128_S128x256_S192x256_1_0_0_1_n_n none
      (shapeCast S192x128 xc shapeCasts_S192x128_S192x128) w (constant S192x256 .f32 0x00000000#32)) hs (ix2 r l)
    * shapeCast S192x128 xs shapeCasts_S1x192x128_S192x128 (ix2 r l)) * ws = _
  rw [slice2_axis1_apply o _ hs r l ⟨o + l.val, by omega⟩ rfl, shapeCast_1ab_ab_apply]
  congr 3
  show FloatOps.matmul (DotDims.plain 192 128 256) none (shapeCast S192x128 xc shapeCasts_S192x128_S192x128) w
    (fun _ => Ideal.ofBits .f32 0x00000000#32) (ix2 r ⟨o + l.val, by omega⟩) = _
  rw [Ideal.matmul_plain_apply]
  rw [Scale.word_zero, EReal.coe_zero, zero_add]
  refine Finset.sum_congr rfl fun k _ => ?_
  congr 1
  exact shapeCast_apply _ _ _ _ rfl

end Cert.Body

end
-- ==== Proof.Acc.lean ====
/-
  The result's block at the ideal values: an entry of an accumulator is a sum over the groups, and column `j` of grid
  point `t`'s block is column `256 t + j` of the whole result.
-/
module

public import proofs.«01_k».proof.Proof.Point

@[expose] public section

noncomputable section

namespace Cert.Body

open Idealize.ShloMosaic Idealize.ShloMosaic.ValueIdx
open Idealize.ShloMosaic.View (ld)
open Cert.KernelIdeal Cert.KernelIdeal.Facts Cert.KernelIdeal.Facts₀

/-! ## A group's codes and scale, as functions of the row of `x` -/

/-- Row `r` of `x` at group `g`. -/
abbrev rowOf (X : S192x5248.Idx → Elt Ideal .bf16) (r : Fin 192) (g : Fin 41) : Fin 128 → EReal := fun l => X (ix2 r (colOf g l))

theorem row_eq (X : S192x5248.Idx → Elt Ideal .bf16) (r : Fin 192) (g : Fin 41) :
    (fun l : Fin 128 => (ld X (colRect g) (ix2 r l) : EReal)) = rowOf X r g :=
  funext fun l => ld_col (α := Elt Ideal) X g r l

theorem planesT_apply (X : S192x5248.Idx → Elt Ideal .bf16) (g : Fin 41) (r : Fin 192) (l : Fin 128) :
    planesT X (ix3 g r l) = Scale.kScale (Scale.mag (rowOf X r g)) := by
  show wideScale (ld X (colRect g)) (ix2 r l) = _
  rw [wideScale_apply, ← row_eq]

theorem scalesT_apply (X : S192x5248.Idx → Elt Ideal .bf16) (r : Fin 192) (g : Fin 41) :
    scalesT X (ix2 r g) = Scale.kScale (Scale.mag (rowOf X r g)) := by
  show wideScale (ld X (colRect g)) (ix2 r ⟨g.val, _⟩) = _
  rw [wideScale_apply, ← row_eq]

theorem codesT_apply (X : S192x5248.Idx → Elt Ideal .bf16) (g : Fin 41) (r : Fin 192) (l : Fin 128) :
    codesT X (ix2 r (colOf g l)) = Scale.code (X (ix2 r (colOf g l))) (Scale.kInv (Scale.mag (rowOf X r g))) := by
  have hg : grpOf (colOf g l) = g := Fin.ext (by show (128 * g.val + l.val) / 128 = g.val; omega)
  have hl : laneOf (colOf g l) = l := Fin.ext (by show (128 * g.val + l.val) % 128 = l.val; omega)
  show codesOf (ld X (colRect (grpOf (colOf g l)))) (ix2 r (laneOf (colOf g l))) = _
  rw [hg, hl, codesOf_apply, ← row_eq, ld_col (α := Elt Ideal) X g r l]

/-! ## The accumulators -/

/-- The term of group `g` at row `r`, lane `l` of the half whose columns start at `o`, times the weights' scale `s`. -/
def term (W : S5248x256.Idx → Elt Ideal .fp8e4m3) (Y : S192x5248.Idx → Elt Ideal .fp8e4m3) (Z : S41x192x128.Idx → Elt Ideal .f32)
    (r : Fin 192) (l : Fin 128) (j : Fin 256) (s : Fin 41 → EReal) (g : Fin 41) : EReal :=
  (∑ k : Fin 128, Y (ix2 r (colOf g k)) * W (ix2 (colOf g k) j)) * Z (ix3 g r l) * s g

/-- The weights' scale half `h` of the block at point `i` reads at group `g`. -/
def wsAt (i : grid0.Coords) (S : S41x19.Idx → Elt Ideal .f32) (h : Fin 2) (g : Fin 41) : EReal :=
  ld S (wsRect g i h) (Shape.Idx.first (numel1_S1x1.symm ▸ Nat.one_pos))

theorem accNext_apply (i : grid0.Coords) (W : S5248x256.Idx → Elt Ideal .fp8e4m3) (S : S41x19.Idx → Elt Ideal .f32)
    (Y : S192x5248.Idx → Elt Ideal .fp8e4m3) (Z : S41x192x128.Idx → Elt Ideal .f32) (g : Fin 41)
    (acc : FVec Ideal S192x128 .f32 × FVec Ideal S192x128 .f32) (r : Fin 192) (l : Fin 128) :
    (accNext i W S Y Z g acc).1 (ix2 r l) = acc.1 (ix2 r l) + term W Y Z r l ⟨0 + l.val, by omega⟩ (wsAt i S 0) g
    ∧ (accNext i W S Y Z g acc).2 (ix2 r l) = acc.2 (ix2 r l) + term W Y Z r l ⟨128 + l.val, by omega⟩ (wsAt i S 1) g := by
  unfold accNext term wsAt
  constructor
  · refine (accHalf_apply 0 (by omega) _ _ _ _ _ _ r l).trans ?_
    rw [ld_plane (α := Elt Ideal)]
    exact congrArg (fun s : EReal => acc.1 (ix2 r l) + s * _ * _) (Finset.sum_congr rfl fun k _ =>
      congrArg₂ (fun a b : EReal => a * b) (ld_col (α := Elt Ideal) Y g r k) (ld_row (α := Elt Ideal) W g k ⟨0 + l.val, by omega⟩))
  · refine (accHalf_apply 128 (by omega) _ _ _ _ _ _ r l).trans ?_
    rw [ld_plane (α := Elt Ideal)]
    exact congrArg (fun s : EReal => acc.2 (ix2 r l) + s * _ * _) (Finset.sum_congr rfl fun k _ =>
      congrArg₂ (fun a b : EReal => a * b) (ld_col (α := Elt Ideal) Y g r k) (ld_row (α := Elt Ideal) W g k ⟨128 + l.val, by omega⟩))

theorem accFold_apply (i : grid0.Coords) (W : S5248x256.Idx → Elt Ideal .fp8e4m3) (S : S41x19.Idx → Elt Ideal .f32)
    (Y : S192x5248.Idx → Elt Ideal .fp8e4m3) (Z : S41x192x128.Idx → Elt Ideal .f32) (r : Fin 192) (l : Fin 128) (gs : List (Fin 41)) :
    ∀ acc : FVec Ideal S192x128 .f32 × FVec Ideal S192x128 .f32,
    (accFold i W S Y Z gs acc).1 (ix2 r l)
        = acc.1 (ix2 r l) + (gs.map (term W Y Z r l ⟨0 + l.val, by omega⟩ (wsAt i S 0))).sum
    ∧ (accFold i W S Y Z gs acc).2 (ix2 r l)
        = acc.2 (ix2 r l) + (gs.map (term W Y Z r l ⟨128 + l.val, by omega⟩ (wsAt i S 1))).sum := by
  induction gs with
  | nil => intro acc; exact ⟨(add_zero _).symm, (add_zero _).symm⟩
  | cons g gs ih =>
    intro acc
    obtain ⟨h1, h2⟩ := ih (accNext i W S Y Z g acc)
    obtain ⟨e1, e2⟩ := accNext_apply i W S Y Z g acc r l
    constructor
    · show (accFold i W S Y Z gs (accNext i W S Y Z g acc)).1 (ix2 r l) = _
      rw [h1, e1, List.map_cons, List.sum_cons, add_assoc]
    · show (accFold i W S Y Z gs (accNext i W S Y Z g acc)).2 (ix2 r l) = _
      rw [h2, e2, List.map_cons, List.sum_cons, add_assoc]

theorem groups_eq : groups = List.finRange 41 := by decide

theorem sum_groups (f : Fin 41 → EReal) : (groups.map f).sum = ∑ g : Fin 41, f g := by
  rw [groups_eq, Fin.sum_univ_def]

theorem packed0_apply (r : Fin 192) (l : Fin 128) : (packed0 : FVec Ideal S192x128 .f32) (ix2 r l) = (0 : EReal) := by
  show Ideal.ofBits .f32 0x00000000#32 = _
  rw [Scale.word_zero]; rfl

/-! ## The block of the whole result -/

/-- The weights' scale's offset, as a number: column `min (2 i + h) 18`. -/
theorem wsOff_one : ∀ (g : Fin 41) (i : grid0.Coords) (h : Fin 2),
    wsOff g i (BitVec.ofNat 32 h.val) 1 = min (2 * (i 0).val + h.val) 18 := by
  decide +kernel

theorem wsAt_apply (i : grid0.Coords) (S : S41x19.Idx → Elt Ideal .f32) (h : Fin 2) (g : Fin 41) (b : Fin 19)
    (hb : b.val = min (2 * (i 0).val + h.val) 18) : wsAt i S h g = S (ix2 g b) := by
  refine congrArg S (funext fun a => Fin.ext ?_)
  have h1 := wsOff_one g i h
  match a with
  | ⟨0, _⟩ => show g.val + 1 * 0 = g.val; omega
  | ⟨1, _⟩ =>
    show wsOff g i (BitVec.ofNat 32 h.val) 1 + 1 * 0 = b.val
    omega

/-- The result's entry at row `r`, column `c`. -/
def yEntry (X : S192x5248.Idx → Elt Ideal .bf16) (W : S5248x2432.Idx → Elt Ideal .fp8e4m3) (S : S41x19.Idx → Elt Ideal .f32)
    (r : Fin 192) (c : Fin 2432) : EReal :=
  ∑ g : Fin 41, (∑ k : Fin 128, Scale.code (rowOf X r g k) (Scale.kInv (Scale.mag (rowOf X r g))) * W (ix2 (colOf g k) c))
    * Scale.kScale (Scale.mag (rowOf X r g)) * S (ix2 g ⟨c.val / 128, by omega⟩)

/-- Grid point `i`'s block, at a column inside the array. -/
theorem outBlock_entry (i : grid0.Coords) (X : S192x5248.Idx → Elt Ideal .bf16) (W : S5248x2432.Idx → Elt Ideal .fp8e4m3)
    (S : S41x19.Idx → Elt Ideal .f32) (Wb : S5248x256.Idx → Elt Ideal .fp8e4m3) (O : S192x256.Idx → Elt Ideal .bf16)
    (r : Fin 192) (j : Fin 256) (c : Fin 2432) (hc : c.val = 256 * (i 0).val + j.val)
    (hW : ∀ k, Wb (ix2 k j) = W (ix2 k c)) :
    outBlock (accFold i Wb S (codesT X) (planesT X) groups (packed0, packed0)) O (ix2 r j) = yEntry X W S r c := by
  unfold yEntry
  obtain ⟨j, hj256⟩ := j
  by_cases hj : j < 128
  · obtain ⟨l, rfl⟩ : ∃ l : Fin 128, l.val = j := ⟨⟨j, hj⟩, rfl⟩
    rw [outBlock_left]
    show (accFold i Wb S (codesT X) (planesT X) groups (packed0, packed0)).1 (ix2 r l) = _
    rw [(accFold_apply i Wb S (codesT X) (planesT X) r l groups _).1]
    dsimp only
    rw [packed0_apply, sum_groups, zero_add]
    refine Finset.sum_congr rfl fun g _ => ?_
    unfold term
    rw [planesT_apply, wsAt_apply i S 0 g ⟨c.val / 128, by omega⟩ (by have := c.isLt; simp at hc hj ⊢; omega)]
    have hz : (⟨0 + l.val, by omega⟩ : Fin 256) = ⟨l.val, by omega⟩ := Fin.ext (Nat.zero_add _)
    rw [hz]
    simp only [codesT_apply, hW]
  · obtain ⟨l, rfl⟩ : ∃ l : Fin 128, 128 + l.val = j :=
      ⟨⟨j - 128, by omega⟩, by show 128 + (j - 128) = j; omega⟩
    rw [outBlock_right]
    show (accFold i Wb S (codesT X) (planesT X) groups (packed0, packed0)).2 (ix2 r l) = _
    rw [(accFold_apply i Wb S (codesT X) (planesT X) r l groups _).2]
    dsimp only
    rw [packed0_apply, sum_groups, zero_add]
    refine Finset.sum_congr rfl fun g _ => ?_
    unfold term
    rw [planesT_apply, wsAt_apply i S 1 g ⟨c.val / 128, by omega⟩ (by have := c.isLt; simp at hc hj ⊢; omega)]
    simp only [codesT_apply, hW]

end Cert.Body

end
-- ==== Proof.Blocks.lean ====
/-
  The blocks of the kernel's windows, as parts of whole arrays: `x` and the weights' scales are staged whole, the weights
  and the result in column blocks of 256 whose last one overhangs the array.
-/
module

public import proofs.«01_k».proof.Proof.FrameIdeal
public import proofs.«01_k».proof.Proof.Acc
public import Idealize.ShloMosaic.Lib.Pipeline.Value
public import Idealize.ShloMosaic.Lib.Pipeline.ValueKit.Geometry

@[expose] public section

set_option maxRecDepth 16384

noncomputable section

namespace Cert.KernelIdeal.Exact

open Cert.KernelIdeal Cert.KernelIdeal.Gen

open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- `x`, as the region finds it: a row per token. -/
def xArr (c : Dev nD) : S192x5248.Idx → Elt Ideal .bf16 := V m c main_v0
/-- The weights' codes. -/
def wArr (c : Dev nD) : S5248x2432.Idx → Elt Ideal .fp8e4m3 := V m c main_arg1
/-- The weights' scales. -/
def sArr (c : Dev nD) : S41x19.Idx → Elt Ideal .f32 := V m c main_arg2

/-- The whole result. -/
def yArr (c : Dev nD) : S192x2432.Idx → Elt Ideal .bf16 := fun p => Body.yEntry (xArr m c) (wArr m c) (sArr m c) (p 0) (p 1)

/-- The part of the result grid point `t` writes. -/
def yblk (c : Dev nD) (t : Fin cfg0.N) : (win0_3.xblock (grid0.coords t)).Idx → Elt Ideal .bf16 :=
  (win0_3.blk t).view.read (Elt Ideal) (yArr m c)

theorem iblk_0 (c : Dev nD) (t : Fin cfg0.N) : iblk m c 0 t = xArr m c := by
  funext y
  refine congrArg (xArr m c) (funext fun a => Fin.ext ?_)
  exact win0_0.rect_emb_val_of_index_zero t a (by match a with | ⟨0, _⟩ => rfl | ⟨1, _⟩ => rfl) y

theorem iblk_2 (c : Dev nD) (t : Fin cfg0.N) : iblk m c 2 t = sArr m c := by
  funext y
  refine congrArg (sArr m c) (funext fun a => Fin.ext ?_)
  exact win0_2.rect_emb_val_of_index_zero t a (by match a with | ⟨0, _⟩ => rfl | ⟨1, _⟩ => rfl) y

theorem col_1 : ∀ i : grid0.Coords, cc0_transform_1 i 1 = (i 0).val := by decide +kernel
theorem col_3 : ∀ i : grid0.Coords, cc0_transform_3 i 1 = (i 0).val := by decide +kernel
theorem xsize_1 : ∀ i : grid0.Coords, win0_1.xsize i 0 = 5248 ∧ win0_1.xsize i 1 = win0_3.xsize i 1 := by decide +kernel

/-- The weights' buffer just fetched, at a column inside the array. -/
theorem wfill_apply (c : Dev nD) (t : Fin cfg0.N) (d : S5248x256.Idx → Elt Ideal .fp8e4m3) (k : Fin 5248) (j : Fin 256)
    (hj : j.val < win0_3.xsize (grid0.coords t) 1) (q : Fin 2432) (hq : q.val = 256 * (grid0.coords t 0).val + j.val) :
    win0_1.fill (grid0.coords t) d (iblk m c 1 t) (ix2 k j) = wArr m c (ix2 k q) := by
  have hx := xsize_1 (grid0.coords t)
  have hm : win0_1.moved (grid0.coords t) (ix2 k j) = true := (win0_1.moved_iff _ _).mpr fun a => by
    match a with
    | ⟨0, _⟩ => show k.val < win0_1.xsize (grid0.coords t) 0; rw [hx.1]; exact k.isLt
    | ⟨1, _⟩ => show j.val < win0_1.xsize (grid0.coords t) 1; rw [hx.2]; exact hj
  unfold Window.fill
  rw [dif_pos hm]
  refine congrArg (wArr m c) (funext fun a => Fin.ext ?_)
  refine (win0_1.rect_emb_val t _ a).trans ?_
  match a with
  | ⟨0, _⟩ => show 0 * 5248 + k.val = k.val; omega
  | ⟨1, _⟩ =>
    show cc0_transform_1 (grid0.coords t) 1 * 256 + j.val = q.val
    rw [col_1]; omega

/-- What the body leaves of the result's block inside the array. -/
theorem out_cut (c : Dev nD) (t : Fin cfg0.N) (d : S5248x256.Idx → Elt Ideal .fp8e4m3) (O : S192x256.Idx → Elt Ideal .bf16) :
    win0_3.cut (grid0.coords t) (Body.outBlock (Body.accFold (grid0.coords t) (win0_1.fill (grid0.coords t) d (iblk m c 1 t))
      (sArr m c) (Body.codesT (xArr m c)) (Body.planesT (xArr m c)) Body.groups (Body.packed0, Body.packed0)) O) = yblk m c t := by
  funext y
  have h0 : (y 0).val < 192 := Nat.lt_of_lt_of_le (y 0).isLt (win0_3.xsize_le (grid0.coords t) 0)
  have h1 : (y 1).val < 256 := Nat.lt_of_lt_of_le (y 1).isLt (win0_3.xsize_le (grid0.coords t) 1)
  have e0 : ((win0_3.rect t).emb y 0 : ℕ) = (y 0).val :=
    (win0_3.rect_emb_val t y 0).trans (show 0 * 192 + (y 0).val = _ by omega)
  have e1 : ((win0_3.rect t).emb y 1 : ℕ) = 256 * (grid0.coords t 0).val + (y 1).val :=
    (win0_3.rect_emb_val t y 1).trans (show cc0_transform_3 (grid0.coords t) 1 * 256 + (y 1).val = _ by rw [col_3]; omega)
  have hy : win0_3.xinj (grid0.coords t) y = ix2 (⟨(y 0).val, h0⟩ : Fin 192) (⟨(y 1).val, h1⟩ : Fin 256) := by
    funext a
    match a with
    | ⟨0, _⟩ => rfl
    | ⟨1, _⟩ => rfl
  rw [Window.cut_apply, hy]
  rw [Body.outBlock_entry (grid0.coords t) (xArr m c) (wArr m c) (sArr m c) _ O ⟨(y 0).val, h0⟩ ⟨(y 1).val, h1⟩
    ((win0_3.rect t).emb y 1) e1 (fun k => wfill_apply m c t d k _ (y 1).isLt _ e1)]
  show _ = Body.yEntry (xArr m c) (wArr m c) (sArr m c) ((win0_3.rect t).emb y 0) ((win0_3.rect t).emb y 1)
  exact congrArg (fun r => Body.yEntry (xArr m c) (wArr m c) (sArr m c) r ((win0_3.rect t).emb y 1)) (Fin.ext e0.symm)

end Cert.KernelIdeal.Exact

end
-- ==== Proof.RunIdeal.lean ====
/-
  The kernel's body at every grid point, with what it leaves named: the codes and scales of all groups after the first
  point, kept in their buffers and in the scratch, and at every point its column block of the result.
-/
module

public import proofs.«01_k».proof.Proof.Blocks

@[expose] public section

set_option maxRecDepth 16384

noncomputable section

namespace Cert.KernelIdeal.Exact

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.KernelIdeal.Run (𝒱₀ wblk)

local notation "𝕄" => MT nD τ sig Unit (Elt Ideal) ℕ (UR sig nD τ) ℕ

variable (m : (ℓ : Loc nD τ sig) → Buf (Elt Ideal) ℓ) (ρ : Dev nD → PrngReg)

/-- The result's block at a point, filled out past the array's end. -/
def oblk (c : Dev nD) (t : Fin cfg0.N) : S192x256.Idx → Elt Ideal .bf16 :=
  win0_3.fill (grid0.coords t) (fun _ => (0 : EReal)) (yblk m c t)

/-- What is kept between points: after the first, the scratch holds every group's wide scale. -/
def inv (c : Dev nD) (n : ℕ) : sProp 𝕄 :=
  iprop((∃ Z, ⌜n ≠ 0 → Z = Body.planesT (xArr m c)⌝ ∗ owns (c : Thread nD τ) (Memref.whole cc0_scratch0) fullShare Z)
    ∗ ∃ r, prngReg c r)

/-- The proof data: every buffer's contents after the body, and what is kept between points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => oblk m c t
    | ⟨4, _⟩ => Body.codesT (xArr m c)
    | ⟨5, _⟩ => Body.scalesT (xArr m c)
  Φ t := inv m c t.val
  q _ := fullShare
  owed _ := 0

theorem before_1 (c : Dev nD) (t : Fin cfg0.N) (d) :
    (dats m 0 c).before (1 : Fin 6) t d = win0_1.fill (grid0.coords t) d (iblk m c 1 t) := by
  unfold Dat.before; rw [if_pos (fetch0_1 t)]; rfl

seal wblk in
theorem after_1 (c : Dev nD) (t : Fin cfg0.N) : (dats m 0 c).after (1 : Fin 6) t = wblk m c t := by
  rfl

seal oblk in
theorem after_3 (c : Dev nD) (t : Fin cfg0.N) : (dats m 0 c).after (3 : Fin 6) t = oblk m c t := by
  rfl

theorem after_4 (c : Dev nD) (t : Fin cfg0.N) : (dats m 0 c).after (4 : Fin 6) t = Body.codesT (xArr m c) := rfl
theorem after_5 (c : Dev nD) (t : Fin cfg0.N) : (dats m 0 c).after (5 : Fin 6) t = Body.scalesT (xArr m c) := rfl

/-- What the obligation asks of the weights' buffer is what it held. -/
theorem kept_1 (c : Dev nD) (t : Fin cfg0.N) (d) :
    (cfg0.win (1 : Fin 6)).fill (grid0.coords t) d ((cfg0.win (1 : Fin 6)).cut (grid0.coords t) ((dats m 0 c).after (1 : Fin 6) t))
      = win0_1.fill (grid0.coords t) d (iblk m c 1 t) := by
  rw [after_1]; exact Run.fill_wblk m c t d

theorem oblk_cut (c : Dev nD) (t : Fin cfg0.N) : win0_3.cut (grid0.coords t) (oblk m c t) = yblk m c t :=
  win0_3.cut_fill _ _ _

/-- Contents whose part inside the array is the result's block are what the obligation asks of the result's buffer. -/
theorem kept_3 (c : Dev nD) (t : Fin cfg0.N) (B : S192x256.Idx → Elt Ideal .bf16) (hB : win0_3.cut (grid0.coords t) B = yblk m c t) :
    (cfg0.win (3 : Fin 6)).fill (grid0.coords t) B ((cfg0.win (3 : Fin 6)).cut (grid0.coords t) ((dats m 0 c).after (3 : Fin 6) t))
      = B := by
  rw [after_3]
  exact win0_3.fill_congr_cut (grid0.coords t) (hB.trans (oblk_cut m c t).symm)

/-! ## The buffers of the codes and of the scales between points -/

theorem cond_iff (t : Fin cfg0.N) : k0_cond1 (grid0.coords t) = 1#1 ↔ t.val = 0 := by
  revert t; decide +kernel

theorem idle_first (t : Fin cfg0.N) (h : t.val = 0) :
    cfg0.idle (4 : Fin 6) (cfg0.grid.coords t) = false ∧ cfg0.idle (5 : Fin 6) (cfg0.grid.coords t) = false := by
  have e := (cond_iff t).mpr h
  constructor <;>
    · show (!(k0_cond1 (grid0.coords t) == 1#1)) = false
      rw [e]; rfl

theorem idle_later (t : Fin cfg0.N) (h : t.val ≠ 0) :
    cfg0.idle (4 : Fin 6) (cfg0.grid.coords t) = true ∧ cfg0.idle (5 : Fin 6) (cfg0.grid.coords t) = true := by
  have e : ¬ k0_cond1 (grid0.coords t) = 1#1 := fun e => h ((cond_iff t).mp e)
  constructor <;>
    · show (!(k0_cond1 (grid0.coords t) == 1#1)) = true
      rw [beq_eq_false_iff_ne.mpr e]; rfl

theorem before_4 (c : Dev nD) (d) : ∀ (n : ℕ) (h : n < cfg0.N), n ≠ 0 →
    (dats m 0 c).before (4 : Fin 6) ⟨n, h⟩ d = Body.codesT (xArr m c)
  | 0, _, h0 => absurd rfl h0
  | n + 1, h, _ => by
    have hN : n + 1 < 10 := h
    rw [(dats m 0 c).before_of_pos (4 : Fin 6) ⟨n + 1, h⟩ (Nat.succ_ne_zero n) rfl d, if_neg]
    · unfold Dat.left
      by_cases hn : n = 0
      · have hi : idle0 (4 : Fin 6) (grid0.coords ⟨n, Nat.lt_of_succ_lt h⟩) = false :=
          (idle_first ⟨n, Nat.lt_of_succ_lt h⟩ hn).1
        simp only [Nat.add_sub_cancel]
        rw [hi]
        rfl
      · have hi : idle0 (4 : Fin 6) (grid0.coords ⟨n, Nat.lt_of_succ_lt h⟩) = true :=
          (idle_later ⟨n, Nat.lt_of_succ_lt h⟩ hn).1
        simp only [Nat.add_sub_cancel]
        rw [hi]
        exact before_4 c d n (Nat.lt_of_succ_lt h) hn
    · intro hf
      have := (flush0_4 _).mp hf
      simp only [Nat.add_sub_cancel] at this
      omega

theorem before_5 (c : Dev nD) (d) : ∀ (n : ℕ) (h : n < cfg0.N), n ≠ 0 →
    (dats m 0 c).before (5 : Fin 6) ⟨n, h⟩ d = Body.scalesT (xArr m c)
  | 0, _, h0 => absurd rfl h0
  | n + 1, h, _ => by
    have hN : n + 1 < 10 := h
    rw [(dats m 0 c).before_of_pos (5 : Fin 6) ⟨n + 1, h⟩ (Nat.succ_ne_zero n) rfl d, if_neg]
    · unfold Dat.left
      by_cases hn : n = 0
      · have hi : idle0 (5 : Fin 6) (grid0.coords ⟨n, Nat.lt_of_succ_lt h⟩) = false :=
          (idle_first ⟨n, Nat.lt_of_succ_lt h⟩ hn).2
        simp only [Nat.add_sub_cancel]
        rw [hi]
        rfl
      · have hi : idle0 (5 : Fin 6) (grid0.coords ⟨n, Nat.lt_of_succ_lt h⟩) = true :=
          (idle_later ⟨n, Nat.lt_of_succ_lt h⟩ hn).2
        simp only [Nat.add_sub_cancel]
        rw [hi]
        exact before_5 c d n (Nat.lt_of_succ_lt h) hn
    · intro hf
      have := (flush0_5 _).mp hf
      simp only [Nat.add_sub_cancel] at this
      omega

/-! ## The body -/

/-- The body at any point: from buffers holding what the point finds, it leaves the codes, the scales, the wide scales
    and the point's block of the result. -/
theorem sound_body (c : Dev nD) (t : Fin cfg0.N) (W : S5248x256.Idx → Elt Ideal .fp8e4m3) (O : S192x256.Idx → Elt Ideal .bf16)
    (Y : S192x5248.Idx → Elt Ideal .fp8e4m3) (P : S192x41.Idx → Elt Ideal .f32) (Z : S41x192x128.Idx → Elt Ideal .f32)
    (hY : t.val ≠ 0 → Y = Body.codesT (xArr m c)) (hP : t.val ≠ 0 → P = Body.scalesT (xArr m c))
    (hZ : t.val ≠ 0 → Z = Body.planesT (xArr m c)) (K : PUnit → sProp 𝕄) :
    iprop((owns (c : Thread nD τ) (st0_0 t) fullShare (xArr m c) ∗ owns (c : Thread nD τ) (st0_1 t) fullShare W
          ∗ owns (c : Thread nD τ) (st0_2 t) fullShare (sArr m c) ∗ owns (c : Thread nD τ) (st0_3 t) fullShare O
          ∗ owns (c : Thread nD τ) (st0_4 t) fullShare Y ∗ owns (c : Thread nD τ) (st0_5 t) fullShare P
          ∗ owns (c : Thread nD τ) (Memref.whole cc0_scratch0) fullShare Z)
        ∗ (iprop(owns (c : Thread nD τ) (st0_0 t) fullShare (xArr m c) ∗ owns (c : Thread nD τ) (st0_1 t) fullShare W
              ∗ owns (c : Thread nD τ) (st0_2 t) fullShare (sArr m c)
              ∗ owns (c : Thread nD τ) (st0_3 t) fullShare (Body.outBlock (Body.accFold (grid0.coords t) W (sArr m c)
                  (Body.codesT (xArr m c)) (Body.planesT (xArr m c)) Body.groups (Body.packed0, Body.packed0)) O)
              ∗ owns (c : Thread nD τ) (st0_4 t) fullShare (Body.codesT (xArr m c))
              ∗ owns (c : Thread nD τ) (st0_5 t) fullShare (Body.scalesT (xArr m c))
              ∗ owns (c : Thread nD τ) (Memref.whole cc0_scratch0) fullShare (Body.planesT (xArr m c)))
            -∗ K ⟨⟩))
      ⊢ (wp frame (wpE (defs₀ (F := Ideal)) 𝒱₀ (c : Thread nD τ) none) Set.univ (defs₀ (F := Ideal) Proc.tc 0 (t, cfg0.slots t)) K : sProp 𝕄) := by
  change _ ⊢ (wp frame (wpE (defs₀ (F := Ideal)) 𝒱₀ (c : Thread nD τ) none) Set.univ (bodyAt0 t) K : sProp 𝕄)
  rw [Run.bodyAt0_eq]
  by_cases h : k0_cond1 (grid0.coords t) = 1#1
  · iintro ⟨H, Hk⟩
    iapply (Body.wp_body_first 𝒱₀ c none Set.univ (st0_0 t) (st0_1 t) (st0_2 t) (st0_3 t) _ (st0_4 t) _ (st0_5 t)
      (Memref.whole cc0_scratch0) (xArr m c) W (sArr m c) (grid0.coords t) h Y Z O P)
    isplitl [H]; · iexact H
    rw [Body.quantCodes_eq, Body.quantPlanes_eq, Body.scalesBlock_eq]
    iexact Hk
  · have ht : t.val ≠ 0 := fun e => h ((cond_iff t).mpr e)
    rw [hY ht, hP ht, hZ ht]
    iintro ⟨⟨H1, H2, H3, H4, H5, H6, H7⟩, Hk⟩
    iapply (Body.wp_body_later 𝒱₀ c none Set.univ (st0_0 t) (st0_1 t) (st0_2 t) (st0_3 t) _ (st0_4 t) _ (st0_5 t)
      (Memref.whole cc0_scratch0) W (sArr m c) (grid0.coords t) h (Body.codesT (xArr m c)) (Body.planesT (xArr m c)) O)
    isplitl [H2 H3 H4 H5 H7]
    · isplitl [H2]; · iexact H2
      isplitl [H3]; · iexact H3
      isplitl [H4]; · iexact H4
      isplitl [H5]; · iexact H5
      iexact H7
    iintro ⟨H2, H3, H4, H5, H7⟩
    iapply Hk
    isplitl [H1]; · iexact H1
    isplitl [H2]; · iexact H2
    isplitl [H3]; · iexact H3
    isplitl [H4]; · iexact H4
    isplitl [H5]; · iexact H5
    isplitl [H6]; · iexact H6
    iexact H7

/-- What is handed back of the codes' buffer, whichever of its forms the point asks for. -/
theorem leaves_4 (c : Dev nD) (t : Fin cfg0.N) :
    (owns (c : Thread nD τ) (st0_4 t) fullShare (Body.codesT (xArr m c)) : sProp 𝕄)
      ⊢ (match cfg0.idle (4 : Fin 6) (cfg0.grid.coords t) with
        | true =>
          match (cfg0.win (4 : Fin 6)).flush t with
          | false => iprop(∃ d, owns (c : Thread nD τ) (st0_4 t) fullShare ((dats m 0 c).before (4 : Fin 6) t d))
          | true => owns (c : Thread nD τ) (st0_4 t) fullShare ((dats m 0 c).after (4 : Fin 6) t)
        | false => owns (c : Thread nD τ) (st0_4 t) fullShare ((dats m 0 c).after (4 : Fin 6) t) : sProp 𝕄) := by
  by_cases h : t.val = 0
  · rw [(idle_first t h).1, after_4]
  · rw [(idle_later t h).1]
    cases hf : (cfg0.win (4 : Fin 6)).flush t
    · have e : ∀ d, (dats m 0 c).before (4 : Fin 6) t d = Body.codesT (xArr m c) := fun d => before_4 m c d t.val t.isLt h
      simp only [e]
      iintro H; iexists Body.codesT (xArr m c); iexact H
    · rw [after_4]

theorem leaves_5 (c : Dev nD) (t : Fin cfg0.N) :
    (owns (c : Thread nD τ) (st0_5 t) fullShare (Body.scalesT (xArr m c)) : sProp 𝕄)
      ⊢ (match cfg0.idle (5 : Fin 6) (cfg0.grid.coords t) with
        | true =>
          match (cfg0.win (5 : Fin 6)).flush t with
          | false => iprop(∃ d, owns (c : Thread nD τ) (st0_5 t) fullShare ((dats m 0 c).before (5 : Fin 6) t d))
          | true => owns (c : Thread nD τ) (st0_5 t) fullShare ((dats m 0 c).after (5 : Fin 6) t)
        | false => owns (c : Thread nD τ) (st0_5 t) fullShare ((dats m 0 c).after (5 : Fin 6) t) : sProp 𝕄) := by
  by_cases h : t.val = 0
  · rw [(idle_first t h).2, after_5]
  · rw [(idle_later t h).2]
    cases hf : (cfg0.win (5 : Fin 6)).flush t
    · have e : ∀ d, (dats m 0 c).before (5 : Fin 6) t d = Body.scalesT (xArr m c) := fun d => before_5 m c d t.val t.isLt h
      simp only [e]
      iintro H; iexists Body.scalesT (xArr m c); iexact H
    · rw [after_5]

/-- The library's body obligation. -/
theorem body_obligation (c : Dev nD) : BodyObligationLoose (dats m 0 c) (defs₀ (F := Ideal)) 𝒱₀ () Set.univ := fun t => by
  rw [bigSep_W0, bigSep_W0]
  simp only
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨⟨%Z, %hZ, HZ⟩, Hr⟩, Ho, ⟨%d0, H0⟩, ⟨%d1, H1⟩, ⟨%d2, H2⟩, ⟨%d3, H3⟩, ⟨%d4, H4⟩, ⟨%d5, H5⟩⟩
  rw [before0_0_of m (dats m 0 c) rfl (fun _ => rfl) t d0, before_1 m c t d1, before0_2_of m (dats m 0 c) rfl (fun _ => rfl) t d2,
    iblk_0, iblk_2]
  iapply (sound_body m c t (win0_1.fill (grid0.coords t) d1 (iblk m c 1 t)) _ _ _ Z
    (fun h => before_4 m c d4 t.val t.isLt h) (fun h => before_5 m c d5 t.val t.isLt h) hZ _)
  isplitl [H0 H1 H2 H3 H4 H5 HZ]
  · isplitl [H0]; · iexact H0
    isplitl [H1]; · iexact H1
    isplitl [H2]; · iexact H2
    isplitl [H3]; · iexact H3
    isplitl [H4]; · iexact H4
    isplitl [H5]; · iexact H5
    iexact HZ
  iintro ⟨H0, H1, H2, H3, H4, H5, HZ⟩
  isplitl [HZ Hr]
  · isplitl [HZ]
    · iexists Body.planesT (xArr m c)
      isplitr; · ipureintro; exact fun _ => rfl
      iexact HZ
    iexact Hr
  isplitl [Ho]; · iexact Ho
  isplitl [H0]; · rw [show (dats m 0 c).after 0 t = xArr m c from iblk_0 m c t]; iexact H0
  isplitl [H1]
  · iexists d1
    rw [kept_1 m c t d1]
    iexact H1
  isplitl [H2]; · rw [show (dats m 0 c).after 2 t = sArr m c from iblk_2 m c t]; iexact H2
  isplitl [H3]
  · iexists Body.outBlock (Body.accFold (grid0.coords t) (win0_1.fill (grid0.coords t) d1 (iblk m c 1 t)) (sArr m c)
      (Body.codesT (xArr m c)) (Body.planesT (xArr m c)) Body.groups (Body.packed0, Body.packed0))
      ((dats m 0 c).before (3 : Fin 6) t d3)
    rw [kept_3 m c t _ (out_cut m c t d1 _)]
    iexact H3
  isplitl [H4]
  · iapply (leaves_4 m c t); iexact H4
  · iapply (leaves_5 m c t); iexact H5

end Cert.KernelIdeal.Exact

end
-- ==== Proof.ValueIdeal.lean ====
/-
  What the kernel's results are after the run, as functions of its arguments at the ideal values.
-/
module

public import proofs.«01_k».proof.Proof.RunIdeal
public import Idealize.ShloMosaic.Lib.StableHlo.Run
public import Idealize.ShloMosaic.Lib.StableHlo.RunClose
public import Idealize.ShloMosaic.Lib.Claim

@[expose] public section

set_option maxRecDepth 16384

noncomputable section

namespace Cert.KernelIdeal.Exact

open Cert.KernelIdeal Cert.KernelIdeal.Gen Cert.KernelIdeal.Facts Cert.KernelIdeal.Facts₀

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.KernelIdeal.Run (𝒱₀)

variable (m : (ℓ : Loc nD τ sig) → Buf (Elt Ideal) ℓ) (ρ : Dev nD → PrngReg)

/-! ## The arrays after the region -/

theorem arr_3 (c : Dev nD) : (dats m 0 c).arrAt 3 cfg0.N = yArr m c :=
  (dats m 0 c).arrAt_eq_of_cover 3 (yArr m c)
    (fun t _ => by
      show win0_3.cut (grid0.coords t) ((dats m 0 c).after (3 : Fin 6) t) = yblk m c t
      rw [after_3]; exact oblk_cut m c t)
    (Window.Covers.cover (w := win0_3) (by decide +kernel) (Memref.isWhole_whole _))

theorem arr_4 (c : Dev nD) : (dats m 0 c).arrAt 4 cfg0.N = Body.codesT (xArr m c) :=
  (dats m 0 c).arrAt_eq_of_cover 4 (Body.codesT (xArr m c))
    (fun t _ => by
      funext y
      refine congrArg (Body.codesT (xArr m c)) (funext fun a => Fin.ext ?_)
      exact (win0_4.rect_emb_val_of_index_zero t a (by match a with | ⟨0, _⟩ => rfl | ⟨1, _⟩ => rfl) y).symm)
    (Window.Covers.cover (w := win0_4) (by decide +kernel) (Memref.isWhole_whole _))

theorem arr_5 (c : Dev nD) : (dats m 0 c).arrAt 5 cfg0.N = Body.scalesT (xArr m c) :=
  (dats m 0 c).arrAt_eq_of_cover 5 (Body.scalesT (xArr m c))
    (fun t _ => by
      funext y
      refine congrArg (Body.scalesT (xArr m c)) (funext fun a => Fin.ext ?_)
      exact (win0_5.rect_emb_val_of_index_zero t a (by match a with | ⟨0, _⟩ => rfl | ⟨1, _⟩ => rfl) y).symm)
    (Window.Covers.cover (w := win0_5) (by decide +kernel) (Memref.isWhole_whole _))

/-! ## The host's lines -/

theorem tail_2 (c : Dev nD) : Pipeline.afterTail₀ cfgs (dats m) 0 (V0 m) [hostOps1] c main_v2
    = shapeCast S192x1x2432 (yArr m c) Gen.shapeCasts_S192x2432_S192x1x2432 := by
  unfold Pipeline.afterTail₀
  simp only [List.flatten_cons, List.flatten_nil, List.append_nil]
  after_results
  exact congrArg (fun z => shapeCast S192x1x2432 z Gen.shapeCasts_S192x2432_S192x1x2432)
    ((Pipeline.withArrays_arr spec0 launch0.win.arr_inj c (V0 m c) _ 3).trans (arr_3 m c))

theorem tail_3 (c : Dev nD) : Pipeline.afterTail₀ cfgs (dats m) 0 (V0 m) [hostOps1] c main_v3
    = shapeCast S192x1x5248 (Body.codesT (xArr m c)) Gen.shapeCasts_S192x5248_S192x1x5248 := by
  unfold Pipeline.afterTail₀
  simp only [List.flatten_cons, List.flatten_nil, List.append_nil]
  after_results
  exact congrArg (fun z => shapeCast S192x1x5248 z Gen.shapeCasts_S192x5248_S192x1x5248)
    ((Pipeline.withArrays_arr spec0 launch0.win.arr_inj c (V0 m c) _ 4).trans (arr_4 m c))

theorem tail_4 (c : Dev nD) : Pipeline.afterTail₀ cfgs (dats m) 0 (V0 m) [hostOps1] c main_v4
    = shapeCast S192x1x41 (Body.scalesT (xArr m c)) Gen.shapeCasts_S192x41_S192x1x41 := by
  unfold Pipeline.afterTail₀
  simp only [List.flatten_cons, List.flatten_nil, List.append_nil]
  after_results
  exact congrArg (fun z => shapeCast S192x1x41 z Gen.shapeCasts_S192x41_S192x1x41)
    ((Pipeline.withArrays_arr spec0 launch0.win.arr_inj c (V0 m c) _ 5).trans (arr_5 m c))

theorem xArr_eq (c : Dev nD) : xArr m c = shapeCast S192x5248 (m ((c : Thread nD τ).loc main_arg0)) Gen.shapeCasts_S192x1x5248_S192x5248 := by
  unfold xArr V V0
  simp only [List.flatten_cons, List.flatten_nil, List.append_nil]
  after_results
  rfl

/-! ## What is kept between points, taken in and given back -/

theorem inv_in (c : Dev nD) : Pipeline.ΦA (cfgs 0).spec c ⊢ (dats m 0 c).Φ 0 := by
  show Pipeline.ΦA spec0 c ⊢ inv m c 0
  unfold Pipeline.ΦA inv
  rw [scopedRest0_eq]
  simp only [← owns_whole]
  iintro ⟨⟨%Z, HZ⟩, Hr⟩
  isplitl [HZ]
  · iexists Z
    isplitl []
    · ipureintro
      exact fun h => absurd rfl h
    iexact HZ
  iexact Hr

theorem inv_out (c : Dev nD) : (dats m 0 c).Φ (Fin.last (cfgs 0).N) ⊢ Pipeline.ΦA (cfgs 0).spec c := by
  show inv m c (Fin.last (cfgs 0).N).val ⊢ Pipeline.ΦA spec0 c
  unfold Pipeline.ΦA inv
  rw [scopedRest0_eq]
  simp only [← owns_whole]
  iintro ⟨⟨%Z, ⟨-, HZ⟩⟩, Hr⟩
  isplitl [HZ]
  · iexists Z
    iexact HZ
  iexact Hr

/-! ## The run -/

/-- From any memory, the kernel runs to an end at the results above, its arguments as launched and its counters at
    zero. -/
theorem run : θ_run defs (onTc (τ := τ) (main (F := Ideal))) ⟨m, fun _ => 0, ρ⟩ (fun r =>
    (∀ c : Dev nD,
      r.2.mem (c.tc.loc main_v2) = shapeCast S192x1x2432 (yArr m c) Gen.shapeCasts_S192x2432_S192x1x2432
      ∧ r.2.mem (c.tc.loc main_v3) = shapeCast S192x1x5248 (Body.codesT (xArr m c)) Gen.shapeCasts_S192x5248_S192x1x5248
      ∧ r.2.mem (c.tc.loc main_v4) = shapeCast S192x1x41 (Body.scalesT (xArr m c)) Gen.shapeCasts_S192x41_S192x1x41
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2))
    ∧ r.2.sem = fun _ => 0) :=
  Pipeline.θ_run_frame_around_track cfgs (dats m) 0 launch0 defs₀ 𝒱₀ m ρ main
    (fun c => body_obligation m c) (fun c => (dats m 0 c).share_full fun _ => rfl) (fun _ _ => rfl)
    (V0 m) [hostOps1] sfx_sub sfx_fresh sfx_keeps (hmain m 𝒱₀) (fun _ _ => rfl) (inv_in m) (inv_out m) _
    (fun r h => ⟨fun c =>
      ⟨((h.1 c).2 main_v2 (Pipeline.mem_restRefs_of main_v2 (by decide) (by decide))).trans (tail_2 m c),
        ((h.1 c).2 main_v3 (Pipeline.mem_restRefs_of main_v3 (by decide) (by decide))).trans (tail_3 m c),
        ((h.1 c).2 main_v4 (Pipeline.mem_restRefs_of main_v4 (by decide) (by decide))).trans (tail_4 m c),
        ((h.1 c).2 main_arg0 (Pipeline.mem_restRefs_of main_arg0 (by decide) (by decide))).trans
          (W_main_arg0 m (dats m) c),
        (((h.1 c).1 1).trans ((dats m 0 c).arrAt_in 1 rfl _)).trans (V_main_arg1 m c),
        (((h.1 c).1 2).trans ((dats m 0 c).arrAt_in 2 rfl _)).trans (V_main_arg2 m c)⟩, h.2⟩)

/-! ## The kernel's arrays at an index -/

theorem xArr_apply (c : Dev nD) (r : Fin 192) (k : Fin 5248) :
    xArr m c (ix2 r k) = m (c.tc.loc main_arg0) (ix3 r (0 : Fin 1) k) := by
  rw [xArr_eq]
  refine shapeCast_apply (s := S192x1x5248) (t := S192x5248) _ _ (ix2 r k) (ix3 r (0 : Fin 1) k) ?_
  rw [Shape.rowMajor_val_two, Shape.rowMajor_val_three]
  show (r.val * 1 + 0) * 5248 + k.val = r.val * 5248 + k.val
  rw [Nat.mul_one, Nat.add_zero]

theorem wArr_eq (c : Dev nD) : wArr m c = m (c.tc.loc main_arg1) := V_main_arg1 m c

theorem sArr_eq (c : Dev nD) : sArr m c = m (c.tc.loc main_arg2) := V_main_arg2 m c

end Cert.KernelIdeal.Exact

end
-- ==== Proof.RefPoint.lean ====
/-
  The reference body's values, at the ideal values, read at an index.
-/
module

public import proofs.«01_k».proof.Proof.Point
public import proofs.«01_k».proof.Proof.Gen.ReferenceIdeal.Skeleton

@[expose] public section

noncomputable section

namespace Cert.RefBody

open Idealize.ShloMosaic Idealize.ShloMosaic.ValueIdx
open Cert.ReferenceIdeal Cert.ReferenceIdeal.Gen

/-- The indices the reduction over a group's lanes runs over. -/
theorem lane_fiber (g : Fin 41) (r : Fin 192) :
    (Finset.univ.filter fun i : S41x192x128.Idx => reduces_S41x192x128_S41x192.drop i = ix2 g r)
    = Finset.univ.image fun l : Fin 128 => (ix3 g r l : S41x192x128.Idx) := by
  ext i
  simp only [Finset.mem_filter, Finset.mem_univ, true_and, Finset.mem_image]
  have hd0 := Shape.Reduces.drop_apply_val_of_eq reduces_S41x192x128_S41x192 i 0 0
  have hd1 := Shape.Reduces.drop_apply_val_of_eq reduces_S41x192x128_S41x192 i 1 1
  constructor
  · intro h
    refine ⟨i 2, ?_⟩
    rw [h] at hd0 hd1
    funext a
    match a with
    | ⟨0, _⟩ => exact Fin.ext hd0
    | ⟨1, _⟩ => exact Fin.ext hd1
    | ⟨2, _⟩ => rfl
  · rintro ⟨l, rfl⟩
    funext a
    match a with
    | ⟨0, _⟩ => exact Fin.ext hd0
    | ⟨1, _⟩ => exact Fin.ext hd1

/-- The indices the sum over the groups runs over. -/
theorem group_fiber (r : Fin 192) (c : Fin 2432) :
    (Finset.univ.filter fun i : S41x192x2432.Idx => reduces_S41x192x2432_S192x2432.drop i = ix2 r c)
    = Finset.univ.image fun g : Fin 41 => (ix3 g r c : S41x192x2432.Idx) := by
  ext i
  simp only [Finset.mem_filter, Finset.mem_univ, true_and, Finset.mem_image]
  have hd0 := Shape.Reduces.drop_apply_val_of_eq reduces_S41x192x2432_S192x2432 i 0 1
  have hd1 := Shape.Reduces.drop_apply_val_of_eq reduces_S41x192x2432_S192x2432 i 1 2
  constructor
  · intro h
    refine ⟨i 0, ?_⟩
    rw [h] at hd0 hd1
    funext a
    match a with
    | ⟨0, _⟩ => rfl
    | ⟨1, _⟩ => exact Fin.ext hd0
    | ⟨2, _⟩ => exact Fin.ext hd1
  · rintro ⟨l, rfl⟩
    funext a
    match a with
    | ⟨0, _⟩ => exact Fin.ext hd0
    | ⟨1, _⟩ => exact Fin.ext hd1

theorem pay2_apply (x : Vec Ideal S41x192x128 .bf16) (i : S41x192x128.Idx) : k0_pay2 x i = x i := by
  show shapeCast S41x192x128 x shapeCasts_S41x192x128_S41x192x128 i = _
  exact shapeCast_apply _ _ _ _ rfl

/-- The reference's exponent, elementwise. -/
theorem rExp_apply {s : Shape} (v : FVec Ideal s .f32) (i : s.Idx) :
    select (cmpf .olt v (broadcast s (Scalar.ofBits .f32 0x00800000#32))) (broadcast s (Scalar.ofBits .f32 0x00000000#32))
      (addf (floor (divf (log v) (log (broadcast s (Scalar.ofBits .f32 0x40000000#32)))))
        (broadcast s (Scalar.ofBits .f32 0x3F800000#32))) i = Scale.rExp (v i) := rfl

theorem pay3_apply (x : Vec Ideal S41x192x128 .bf16) (g : Fin 41) (r : Fin 192) :
    k0_pay3 x (ix2 g r) = Scale.rExp (Scale.mag fun l => x (ix3 g r l)) := by
  have hv : mulf (multiReduction .maximumf [2] S41x192 (absf (k0_pay2 x)) 0xFF800000#32 reduces_S41x192x128_S41x192 (.inl rfl) rfl)
      (broadcast S41x192 (Scalar.ofBits .f32 0x3B124925#32)) (ix2 g r) = Scale.mag fun l => x (ix3 g r l) := by
    show reduceFold reduces_S41x192x128_S41x192 max (Ideal.ofBits .f32 0xFF800000#32) (absf (k0_pay2 x)) (ix2 g r)
      * Ideal.ofBits .f32 0x3B124925#32 = _
    rw [Scale.word_bot, reduceFold_eq_fold, Scale.fold_max _ _ (lane_fiber g r)]
    refine congrArg (· * Ideal.ofBits .f32 0x3B124925#32) (Finset.sup_congr rfl fun l _ => ?_)
    show max (k0_pay2 x (ix3 g r l)) (-(k0_pay2 x (ix3 g r l))) = _
    rw [pay2_apply]
  rw [← hv]
  unfold k0_pay3
  exact rExp_apply (mulf (multiReduction .maximumf [2] S41x192 (absf (k0_pay2 x)) 0xFF800000#32 reduces_S41x192x128_S41x192 (.inl rfl) rfl)
      (broadcast S41x192 (Scalar.ofBits .f32 0x3B124925#32))) (ix2 g r)

theorem exp2_apply {s : Shape} (y : FVec Ideal s .f32) (i : s.Idx) : exp2 y i = Ideal.exp2 (y i) := rfl

theorem pay4_apply (x : Vec Ideal S41x192x128 .bf16) (g : Fin 41) (r : Fin 192) :
    k0_pay4 x (ix2 g r) = Ideal.exp2 (Scale.rExp (Scale.mag fun l => x (ix3 g r l))) := by
  unfold k0_pay4
  rw [exp2_apply, pay3_apply]

/-- A `[41, 192]` array cast to a column and broadcast along the last axis. -/
theorem spread {n : ℕ} (y : FVec Ideal S41x192 .f32) (h : S41x192x1.Broadcasts ⟨3, ![41, 192, n]⟩) (g : Fin 41) (r : Fin 192) (l : Fin n) :
    broadcastTo ⟨3, ![41, 192, n]⟩ (shapeCast S41x192x1 y shapeCasts_S41x192_S41x192x1) h (ix3 g r l) = y (ix2 g r) := by
  refine (broadcastTo_apply _ _ _ (ix3 g r (0 : Fin 1)) (fun c => ?_)).trans ?_
  · match c with
    | ⟨0, _⟩ => rfl
    | ⟨1, _⟩ => rfl
    | ⟨2, _⟩ => rfl
  · refine shapeCast_apply _ _ _ (ix2 g r) ?_
    rw [Shape.rowMajor_val_three, Shape.rowMajor_val_two]
    show g.val * 192 + r.val = (g.val * 192 + r.val) * 1 + 0
    omega

theorem pay5_apply (x : Vec Ideal S41x192x128 .bf16) (g : Fin 41) (r : Fin 192) (l : Fin 128) :
    k0_pay5 x (ix3 g r l) = Scale.code (x (ix3 g r l))
      (Ideal.exp2 (Ideal.ofBits .f32 0x00000000#32 - Scale.rExp (Scale.mag fun l => x (ix3 g r l)))) := by
  show Scale.code (k0_pay2 x (ix3 g r l)) (broadcastTo S41x192x128 (shapeCast S41x192x1
    (exp2 (subf (broadcast S41x192 (Scalar.ofBits .f32 0x00000000#32)) (k0_pay3 x)) : FVec Ideal S41x192 .f32)
    shapeCasts_S41x192_S41x192x1) broadcasts_S41x192x1_S41x192x128 (ix3 g r l)) = _
  rw [pay2_apply, spread]
  refine congrArg (Scale.code (x (ix3 g r l))) ?_
  rw [exp2_apply, ← pay3_apply]
  rfl

/-- The batched product at an index. -/
theorem batch_apply (a : FVec Ideal S41x192x128 .fp8e4m3) (b : FVec Ideal S41x128x2432 .fp8e4m3) (acc : FVec Ideal S41x192x2432 .f32)
    (g : Fin 41) (r : Fin 192) (c : Fin 2432) :
    FloatOps.matmul dot_S41x192x128_S41x128x2432_S41x192x2432_2_1_1_2_0_0 none a b acc (ix3 g r c)
      = acc (ix3 g r c) + ∑ k : Fin 128, a (ix3 g r k) * b (ix3 g k c) := by
  rw [Ideal.matmul_apply, ← Equiv.sum_comp (contrEquiv1 dot_S41x192x128_S41x128x2432_S41x192x2432_2_1_1_2_0_0 128 rfl rfl).symm]
  refine congrArg (acc (ix3 g r c) + ·) (Finset.sum_congr rfl fun k _ => ?_)
  have hk := contrEquiv1_symm_val dot_S41x192x128_S41x128x2432_S41x192x2432_2_1_1_2_0_0 128 rfl rfl k
  have el : dot_S41x192x128_S41x128x2432_S41x192x2432_2_1_1_2_0_0.lhsIdx (ix3 g r c)
      ((contrEquiv1 dot_S41x192x128_S41x128x2432_S41x192x2432_2_1_1_2_0_0 128 rfl rfl).symm k) = ix3 g r k := by
    funext a; apply Fin.ext
    match a with
    | ⟨0, _⟩ => rfl
    | ⟨1, _⟩ => rfl
    | ⟨2, _⟩ => exact hk
  have er : dot_S41x192x128_S41x128x2432_S41x192x2432_2_1_1_2_0_0.rhsIdx (ix3 g r c)
      ((contrEquiv1 dot_S41x192x128_S41x128x2432_S41x192x2432_2_1_1_2_0_0 128 rfl rfl).symm k) = ix3 g k c := by
    funext a; apply Fin.ext
    match a with
    | ⟨0, _⟩ => rfl
    | ⟨1, _⟩ => exact hk
    | ⟨2, _⟩ => rfl
  rw [el, er]

theorem pay6_apply (x : Vec Ideal S41x192x128 .bf16) (w : Vec Ideal S41x128x2432 .fp8e4m3) (s : Vec Ideal S41x2432 .f32)
    (g : Fin 41) (r : Fin 192) (c : Fin 2432) :
    k0_pay6 x w s (ix3 g r c)
      = (∑ k : Fin 128, k0_pay5 x (ix3 g r k) * w (ix3 g k c)) * k0_pay4 x (ix2 g r) * s (ix2 g c) := by
  have h1 : FloatOps.matmul dot_S41x192x128_S41x128x2432_S41x192x2432_2_1_1_2_0_0 none (k0_pay5 x)
      (shapeCast S41x128x2432 w shapeCasts_S41x128x2432_S41x128x2432 : FVec Ideal S41x128x2432 .fp8e4m3)
      (fun _ => Ideal.ofBits .f32 0x00000000#32) (ix3 g r c)
      = ∑ k : Fin 128, k0_pay5 x (ix3 g r k) * w (ix3 g k c) := by
    rw [batch_apply, Scale.word_zero, EReal.coe_zero, zero_add]
    refine Finset.sum_congr rfl fun k _ => ?_
    refine congrArg (k0_pay5 x (ix3 g r k) * ·) ?_
    exact shapeCast_apply _ _ _ _ rfl
  have h2 : broadcastTo S41x192x2432 (shapeCast S41x192x1 (k0_pay4 x) shapeCasts_S41x192_S41x192x1)
      broadcasts_S41x192x1_S41x192x2432 (ix3 g r c) = k0_pay4 x (ix2 g r) := spread _ _ g r c
  have h3 : broadcastTo S41x192x2432 (shapeCast S41x1x2432 (shapeCast S41x2432 s shapeCasts_S41x2432_S41x2432)
      shapeCasts_S41x2432_S41x1x2432) broadcasts_S41x1x2432_S41x192x2432 (ix3 g r c) = s (ix2 g c) := by
    refine (broadcastTo_apply _ _ _ (ix3 g (0 : Fin 1) c) (fun a => ?_)).trans ?_
    · match a with
      | ⟨0, _⟩ => rfl
      | ⟨1, _⟩ => rfl
      | ⟨2, _⟩ => rfl
    · refine (shapeCast_apply _ _ _ (ix2 g c) ?_).trans (shapeCast_apply _ _ _ _ rfl)
      rw [Shape.rowMajor_val_three, Shape.rowMajor_val_two]
      show g.val * 2432 + c.val = (g.val * 1 + 0) * 2432 + c.val
      omega
  rw [← h1, ← h2, ← h3]
  rfl

theorem pay1_apply (y : FVec Ideal S41x192x2432 .f32) (r : Fin 192) (c : Fin 2432) :
    k0_pay1 y (ix2 r c) = ∑ g : Fin 41, y (ix3 g r c) := by
  classical
  show ∑ i ∈ Finset.univ.filter (fun i : S41x192x2432.Idx => reduces_S41x192x2432_S192x2432.drop i = ix2 r c), y i = _
  rw [group_fiber, Finset.sum_image]
  intro a _ b _ h
  exact congrFun h 0

end Cert.RefBody

end
-- ==== Proof.RefValue.lean ====
/-
  What the reference's results are after its run, read at an index, as functions of its arguments at the ideal values.
-/
module

public import proofs.«01_k».proof.Proof.RefPoint
public import proofs.«01_k».proof.Proof.Gen.ReferenceIdeal.Frame
public import Idealize.ShloMosaic.Lib.Pipeline.ValueKit.Geometry
public import Idealize.ShloMosaic.Lib.StableHlo.Run
public import Idealize.ShloMosaic.Lib.StableHlo.RunClose
public import Idealize.ShloMosaic.Lib.Claim

@[expose] public section

set_option maxRecDepth 16384

noncomputable section

namespace Cert.ReferenceIdeal.Exact

open Cert.ReferenceIdeal Cert.ReferenceIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The body's three operands, as the host's first lines leave them. -/
abbrev xg (c : Dev nD) : S41x192x128.Idx → EReal := V m c main_v1
abbrev wg (c : Dev nD) : S41x128x2432.Idx → EReal := V m c main_v2
abbrev sg (c : Dev nD) : S41x2432.Idx → EReal := V m c main_v4

theorem zero2 : (![0, 0] : Fin 2 → Nat) = fun _ => 0 := by
  funext a; match a with | ⟨0, _⟩ => rfl | ⟨1, _⟩ => rfl

theorem zero3 : (![0, 0, 0] : Fin 3 → Nat) = fun _ => 0 := by
  funext a; match a with | ⟨0, _⟩ => rfl | ⟨1, _⟩ => rfl | ⟨2, _⟩ => rfl

/-! ## The body's blocks are the whole arrays -/

theorem iblk_0 (c : Dev nD) (t : Fin cfg0.N) : iblk m c 0 t = xg m c := by
  funext y
  refine congrArg (xg m c) (funext fun a => Fin.ext ?_)
  exact win0_0.rect_emb_val_of_index_zero t a (by match a with | ⟨0, _⟩ => rfl | ⟨1, _⟩ => rfl | ⟨2, _⟩ => rfl) y

theorem iblk_1 (c : Dev nD) (t : Fin cfg0.N) : iblk m c 1 t = wg m c := by
  funext y
  refine congrArg (wg m c) (funext fun a => Fin.ext ?_)
  exact win0_1.rect_emb_val_of_index_zero t a (by match a with | ⟨0, _⟩ => rfl | ⟨1, _⟩ => rfl | ⟨2, _⟩ => rfl) y

theorem iblk_2 (c : Dev nD) (t : Fin cfg0.N) : iblk m c 2 t = sg m c := by
  funext y
  refine congrArg (sg m c) (funext fun a => Fin.ext ?_)
  exact win0_2.rect_emb_val_of_index_zero t a (by match a with | ⟨0, _⟩ => rfl | ⟨1, _⟩ => rfl) y

theorem out_3 (x : S41x192x128.Idx → EReal) (w : S41x128x2432.Idx → EReal) (s : S41x2432.Idx → EReal) :
    out0_3 (F := Ideal) x w s = k0_pay1 (F := Ideal) (k0_pay6 (F := Ideal) x w s) := by
  unfold out0_3
  rw [View.canon_unit_zero zero2, View.ld_unit_zero zero3, View.ld_unit_zero zero3, View.ld_unit_zero zero2]

theorem out_4 (x : S41x192x128.Idx → EReal) (w : S41x128x2432.Idx → EReal) (s : S41x2432.Idx → EReal) :
    out0_4 (F := Ideal) x w s = k0_pay5 (F := Ideal) x := by
  unfold out0_4
  rw [View.canon_unit_zero zero3, View.ld_unit_zero zero3]

theorem out_5 (x : S41x192x128.Idx → EReal) (w : S41x128x2432.Idx → EReal) (s : S41x2432.Idx → EReal) :
    out0_5 (F := Ideal) x w s = k0_pay4 (F := Ideal) x := by
  unfold out0_5
  rw [View.canon_unit_zero zero2, View.ld_unit_zero zero3]

theorem left_3 (c : Dev nD) (t : Fin cfg0.N) : (dats m 0 c).after 3 t = k0_pay1 (F := Ideal) (k0_pay6 (F := Ideal) (xg m c) (wg m c) (sg m c)) := by
  rw [after0_3, iblk_0, iblk_1, iblk_2]; exact out_3 _ _ _

theorem left_4 (c : Dev nD) (t : Fin cfg0.N) : (dats m 0 c).after 4 t = k0_pay5 (F := Ideal) (xg m c) := by
  rw [after0_4, iblk_0, iblk_1, iblk_2]; exact out_4 _ _ _

theorem left_5 (c : Dev nD) (t : Fin cfg0.N) : (dats m 0 c).after 5 t = k0_pay4 (F := Ideal) (xg m c) := by
  rw [after0_5, iblk_0, iblk_1, iblk_2]; exact out_5 _ _ _

/-! ## The arrays after the region -/

theorem arr_3 (c : Dev nD) :
    (dats m 0 c).arrAt 3 cfg0.N = (k0_pay1 (F := Ideal) (k0_pay6 (F := Ideal) (xg m c) (wg m c) (sg m c)) : S192x2432.Idx → EReal) :=
  (dats m 0 c).arrAt_eq_of_cover 3 _
    (fun t _ => by
      show win0_3.cut (grid0.coords t) ((dats m 0 c).after (3 : Fin 6) t) = _
      rw [left_3]
      funext y
      refine congrArg (k0_pay1 (F := Ideal) (k0_pay6 (F := Ideal) (xg m c) (wg m c) (sg m c))) (funext fun a => Fin.ext ?_)
      exact (win0_3.rect_emb_val_of_index_zero t a (by match a with | ⟨0, _⟩ => rfl | ⟨1, _⟩ => rfl) y).symm)
    (Window.Covers.cover (w := win0_3) (by decide +kernel) (Memref.isWhole_whole _))

theorem arr_4 (c : Dev nD) : (dats m 0 c).arrAt 4 cfg0.N = (k0_pay5 (F := Ideal) (xg m c) : S41x192x128.Idx → EReal) :=
  (dats m 0 c).arrAt_eq_of_cover 4 _
    (fun t _ => by
      show win0_4.cut (grid0.coords t) ((dats m 0 c).after (4 : Fin 6) t) = _
      rw [left_4]
      funext y
      refine congrArg (k0_pay5 (F := Ideal) (xg m c)) (funext fun a => Fin.ext ?_)
      exact (win0_4.rect_emb_val_of_index_zero t a (by match a with | ⟨0, _⟩ => rfl | ⟨1, _⟩ => rfl | ⟨2, _⟩ => rfl) y).symm)
    (Window.Covers.cover (w := win0_4) (by decide +kernel) (Memref.isWhole_whole _))

theorem arr_5 (c : Dev nD) : (dats m 0 c).arrAt 5 cfg0.N = (k0_pay4 (F := Ideal) (xg m c) : S41x192.Idx → EReal) :=
  (dats m 0 c).arrAt_eq_of_cover 5 _
    (fun t _ => by
      show win0_5.cut (grid0.coords t) ((dats m 0 c).after (5 : Fin 6) t) = _
      rw [left_5]
      funext y
      refine congrArg (k0_pay4 (F := Ideal) (xg m c)) (funext fun a => Fin.ext ?_)
      exact (win0_5.rect_emb_val_of_index_zero t a (by match a with | ⟨0, _⟩ => rfl | ⟨1, _⟩ => rfl) y).symm)
    (Window.Covers.cover (w := win0_5) (by decide +kernel) (Memref.isWhole_whole _))

/-! ## The host's last lines -/

theorem tail_6 (c : Dev nD) : Pipeline.afterTail₀ cfgs (dats m) 0 (V0 m) [hostOps1] c main_v6
    = shapeCast S192x1x2432 (k0_pay1 (F := Ideal) (k0_pay6 (F := Ideal) (xg m c) (wg m c) (sg m c))) Gen.shapeCasts_S192x2432_S192x1x2432 := by
  unfold Pipeline.afterTail₀
  simp only [List.flatten_cons, List.flatten_nil, List.append_nil]
  after_results
  exact congrArg (fun z => shapeCast S192x1x2432 z Gen.shapeCasts_S192x2432_S192x1x2432)
    ((Pipeline.withArrays_arr spec0 launch0.win.arr_inj c (V0 m c) _ 3).trans (arr_3 m c))

theorem tail_8 (c : Dev nD) : Pipeline.afterTail₀ cfgs (dats m) 0 (V0 m) [hostOps1] c main_v8
    = shapeCast S192x1x5248 (transpose S192x41x128 [1, 0, 2] (k0_pay5 (F := Ideal) (xg m c))
        Gen.transposes_S41x192x128_S192x41x128_1_0_2) Gen.shapeCasts_S192x41x128_S192x1x5248 := by
  unfold Pipeline.afterTail₀
  simp only [List.flatten_cons, List.flatten_nil, List.append_nil]
  after_results
  exact congrArg (fun z => shapeCast S192x1x5248 (transpose S192x41x128 [1, 0, 2] z
      Gen.transposes_S41x192x128_S192x41x128_1_0_2) Gen.shapeCasts_S192x41x128_S192x1x5248)
    ((Pipeline.withArrays_arr spec0 launch0.win.arr_inj c (V0 m c) _ 4).trans (arr_4 m c))

theorem tail_10 (c : Dev nD) : Pipeline.afterTail₀ cfgs (dats m) 0 (V0 m) [hostOps1] c main_v10
    = shapeCast S192x1x41 (transpose S192x41 [1, 0] (k0_pay4 (F := Ideal) (xg m c))
        Gen.transposes_S41x192_S192x41_1_0) Gen.shapeCasts_S192x41_S192x1x41 := by
  unfold Pipeline.afterTail₀
  simp only [List.flatten_cons, List.flatten_nil, List.append_nil]
  after_results
  exact congrArg (fun z => shapeCast S192x1x41 (transpose S192x41 [1, 0] z
      Gen.transposes_S41x192_S192x41_1_0) Gen.shapeCasts_S192x41_S192x1x41)
    ((Pipeline.withArrays_arr spec0 launch0.win.arr_inj c (V0 m c) _ 5).trans (arr_5 m c))

/-! ## The host's first lines -/

theorem xg_eq (c : Dev nD) : xg m c = transpose S41x192x128 [1, 0, 2]
    (shapeCast S192x41x128 (m (c.tc.loc main_arg0)) Gen.shapeCasts_S192x1x5248_S192x41x128)
      Gen.transposes_S192x41x128_S41x192x128_1_0_2 := by
  unfold xg V V0
  simp only [List.flatten_cons, List.flatten_nil, List.append_nil]
  after_results
  rfl

theorem wg_eq (c : Dev nD) : wg m c
    = shapeCast S41x128x2432 (m (c.tc.loc main_arg1)) Gen.shapeCasts_S5248x2432_S41x128x2432 := by
  unfold wg V V0
  simp only [List.flatten_cons, List.flatten_nil, List.append_nil]
  after_results
  rfl

theorem sg_eq (c : Dev nD) : sg m c = shapeCast S41x2432
    (broadcastInDim S41x19x128 ![0, 1] Gen.bcast_S41x19_S41x19x128_0_1 (m (c.tc.loc main_arg2)))
      Gen.shapeCasts_S41x19x128_S41x2432 := by
  unfold sg V V0
  simp only [List.flatten_cons, List.flatten_nil, List.append_nil]
  after_results
  rfl

/-- Column `128 g + l`. -/
def col (g : Fin 41) (l : Fin 128) : Fin 5248 := ⟨128 * g.val + l.val, by omega⟩

theorem xg_apply (c : Dev nD) (g : Fin 41) (r : Fin 192) (l : Fin 128) :
    xg m c (ix3 g r l) = m (c.tc.loc main_arg0) (ix3 r (0 : Fin 1) (col g l)) := by
  rw [xg_eq]
  refine (transpose_apply (s := S192x41x128) (t := S41x192x128) _ _ _ (ix3 g r l) (ix3 r g l) ?_).trans ?_
  · intro b
    match b with
    | ⟨0, _⟩ => rfl
    | ⟨1, _⟩ => rfl
    | ⟨2, _⟩ => rfl
  refine shapeCast_apply (s := S192x1x5248) (t := S192x41x128) _ _ (ix3 r g l) (ix3 r (0 : Fin 1) (col g l)) ?_
  rw [Shape.rowMajor_val_three, Shape.rowMajor_val_three]
  show (r.val * 1 + 0) * 5248 + (128 * g.val + l.val) = (r.val * 41 + g.val) * 128 + l.val
  omega

theorem wg_apply (c : Dev nD) (g : Fin 41) (k : Fin 128) (j : Fin 2432) :
    wg m c (ix3 g k j) = m (c.tc.loc main_arg1) (ix2 (col g k) j) := by
  rw [wg_eq]
  refine shapeCast_apply (s := S5248x2432) (t := S41x128x2432) _ _ (ix3 g k j) (ix2 (col g k) j) ?_
  rw [Shape.rowMajor_val_two, Shape.rowMajor_val_three]
  show (128 * g.val + k.val) * 2432 + j.val = (g.val * 128 + k.val) * 2432 + j.val
  omega

theorem sg_apply (c : Dev nD) (g : Fin 41) (j : Fin 2432) :
    sg m c (ix2 g j) = m (c.tc.loc main_arg2) (ix2 g (⟨j.val / 128, by omega⟩ : Fin 19)) := by
  rw [sg_eq]
  refine (shapeCast_apply (s := S41x19x128) (t := S41x2432) _ _ (ix2 g j)
    (ix3 g (⟨j.val / 128, by omega⟩ : Fin 19) (⟨j.val % 128, Nat.mod_lt _ (by omega)⟩ : Fin 128)) ?_).trans ?_
  · rw [Shape.rowMajor_val_two, Shape.rowMajor_val_three]
    show (g.val * 19 + j.val / 128) * 128 + j.val % 128 = g.val * 2432 + j.val
    omega
  refine broadcastInDim_apply (s := S41x19) (t := S41x19x128) _ _ _ _ _ ?_
  intro a
  match a with
  | ⟨0, _⟩ => rfl
  | ⟨1, _⟩ => rfl

/-! ## The results -/

/-- The row of group `g`'s values, from the argument. -/
def row (c : Dev nD) (r : Fin 192) (g : Fin 41) : Fin 128 → EReal := fun l => m (c.tc.loc main_arg0) (ix3 r (0 : Fin 1) (col g l))

theorem row_eq (c : Dev nD) (r : Fin 192) (g : Fin 41) : (fun l => xg m c (ix3 g r l)) = row m c r g :=
  funext fun l => xg_apply m c g r l

theorem scale_apply (c : Dev nD) (r : Fin 192) (g : Fin 41) :
    Pipeline.afterTail₀ cfgs (dats m) 0 (V0 m) [hostOps1] c main_v10 (ix3 r (0 : Fin 1) g)
    = Ideal.exp2 (Scale.rExp (Scale.mag (row m c r g))) := by
  rw [tail_10]
  refine (shapeCast_apply (s := S192x41) (t := S192x1x41) _ _ (ix3 r (0 : Fin 1) g) (ix2 r g) ?_).trans ?_
  · rw [Shape.rowMajor_val_two, Shape.rowMajor_val_three]
    show r.val * 41 + g.val = (r.val * 1 + 0) * 41 + g.val
    omega
  refine (transpose_apply (s := S41x192) (t := S192x41) _ _ _ (ix2 r g) (ix2 g r) ?_).trans ?_
  · intro b
    match b with
    | ⟨0, _⟩ => rfl
    | ⟨1, _⟩ => rfl
  rw [RefBody.pay4_apply, row_eq]

theorem code_apply (c : Dev nD) (r : Fin 192) (g : Fin 41) (l : Fin 128) :
    Pipeline.afterTail₀ cfgs (dats m) 0 (V0 m) [hostOps1] c main_v8 (ix3 r (0 : Fin 1) (col g l))
    = Scale.code (row m c r g l) (Ideal.exp2 (Ideal.ofBits .f32 0x00000000#32 - Scale.rExp (Scale.mag (row m c r g)))) := by
  rw [tail_8]
  refine (shapeCast_apply (s := S192x41x128) (t := S192x1x5248) _ _ (ix3 r (0 : Fin 1) (col g l)) (ix3 r g l) ?_).trans ?_
  · rw [Shape.rowMajor_val_three, Shape.rowMajor_val_three]
    show (r.val * 41 + g.val) * 128 + l.val = (r.val * 1 + 0) * 5248 + (128 * g.val + l.val)
    omega
  refine (transpose_apply (s := S41x192x128) (t := S192x41x128) _ _ _ (ix3 r g l) (ix3 g r l) ?_).trans ?_
  · intro b
    match b with
    | ⟨0, _⟩ => rfl
    | ⟨1, _⟩ => rfl
    | ⟨2, _⟩ => rfl
  rw [RefBody.pay5_apply, row_eq, xg_apply]
  rfl

theorem y_entry (c : Dev nD) (r : Fin 192) (j : Fin 2432) :
    k0_pay1 (F := Ideal) (k0_pay6 (F := Ideal) (xg m c) (wg m c) (sg m c)) (ix2 r j)
    = (∑ g : Fin 41, (∑ k : Fin 128, Scale.code (row m c r g k)
          (Ideal.exp2 (Ideal.ofBits .f32 0x00000000#32 - Scale.rExp (Scale.mag (row m c r g))))
        * m (c.tc.loc main_arg1) (ix2 (col g k) j))
      * Ideal.exp2 (Scale.rExp (Scale.mag (row m c r g)))
      * m (c.tc.loc main_arg2) (ix2 g (⟨j.val / 128, by omega⟩ : Fin 19)) : EReal) := by
  refine (RefBody.pay1_apply _ r j).trans (Finset.sum_congr rfl fun g _ => ?_)
  rw [RefBody.pay6_apply, RefBody.pay4_apply, row_eq, sg_apply]
  refine congrArg (fun z : EReal => z * Ideal.exp2 (Scale.rExp (Scale.mag (row m c r g)))
    * m (c.tc.loc main_arg2) (ix2 g (⟨j.val / 128, by omega⟩ : Fin 19))) ?_
  refine Finset.sum_congr rfl fun k _ => ?_
  rw [RefBody.pay5_apply, row_eq, xg_apply, wg_apply]
  rfl

theorem y_apply (c : Dev nD) (r : Fin 192) (j : Fin 2432) :
    Pipeline.afterTail₀ cfgs (dats m) 0 (V0 m) [hostOps1] c main_v6 (ix3 r (0 : Fin 1) j)
    = (∑ g : Fin 41, (∑ k : Fin 128, Scale.code (row m c r g k)
          (Ideal.exp2 (Ideal.ofBits .f32 0x00000000#32 - Scale.rExp (Scale.mag (row m c r g))))
        * m (c.tc.loc main_arg1) (ix2 (col g k) j))
      * Ideal.exp2 (Scale.rExp (Scale.mag (row m c r g)))
      * m (c.tc.loc main_arg2) (ix2 g (⟨j.val / 128, by omega⟩ : Fin 19)) : EReal) := by
  rw [tail_6]
  refine (shapeCast_apply (s := S192x2432) (t := S192x1x2432) _ _ (ix3 r (0 : Fin 1) j) (ix2 r j) ?_).trans (y_entry m c r j)
  rw [Shape.rowMajor_val_two, Shape.rowMajor_val_three]
  show r.val * 2432 + j.val = (r.val * 1 + 0) * 2432 + j.val
  omega

/-- From any memory, the reference runs to an end at the results above, its arguments as launched. -/
theorem run : θ_run defs (onTc (τ := τ) (main (F := Ideal))) ⟨m, fun _ => 0, ρ⟩ (fun r =>
    ∀ c : Dev nD,
      r.2.mem (c.tc.loc main_v6) = Pipeline.afterTail₀ cfgs (dats m) 0 (V0 m) [hostOps1] c main_v6
      ∧ r.2.mem (c.tc.loc main_v8) = Pipeline.afterTail₀ cfgs (dats m) 0 (V0 m) [hostOps1] c main_v8
      ∧ r.2.mem (c.tc.loc main_v10) = Pipeline.afterTail₀ cfgs (dats m) 0 (V0 m) [hostOps1] c main_v10
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun _ h c =>
      ⟨(h.1 c).2 main_v6 (Pipeline.mem_restRefs_of main_v6 (by decide) (by decide)),
        (h.1 c).2 main_v8 (Pipeline.mem_restRefs_of main_v8 (by decide) (by decide)),
        (h.1 c).2 main_v10 (Pipeline.mem_restRefs_of main_v10 (by decide) (by decide)),
        ((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c),
        ((h.1 c).2 main_arg2 (Pipeline.mem_restRefs_of main_arg2 (by decide) (by decide))).trans (W_main_arg2 m (dats m) c)⟩)
    (run_main_quiescent m ρ)

end Cert.ReferenceIdeal.Exact

end
-- ==== Proof.Agree.lean ====
/-
  On finite values the kernel's results and the reference's are equal, entry by entry.
-/
module

public import proofs.«01_k».proof.Proof.ValueIdeal
public import proofs.«01_k».proof.Proof.RefValue
public import proofs.«01_k».proof.Proof.Gen.Pre_finite
public import proofs.«01_k».proof.Defs
public import Idealize.ShloMosaic.Lib.ReduceAll

@[expose] public section

set_option maxRecDepth 16384

noncomputable section

namespace Cert.Agree

open Idealize.ShloMosaic Idealize.ShloMosaic.TcCoe Idealize.ShloMosaic.ValueIdx

/-! ## What the precondition says of one value -/

instance : Subsingleton Cert.Pre_finite.S_.Idx := ⟨fun a b => funext fun i => i.elim0⟩

/-- Every value's magnitude is at most the format's largest. -/
theorem finite_apply (x : Cert.Pre_finite.S192x1x5248.Idx → EReal) (w : Cert.Pre_finite.S5248x2432.Idx → EReal)
    (s : Cert.Pre_finite.S41x19.Idx → EReal) (h : Cert.Pre_finite.fn (F := Ideal) x w s = fun _ => 1#1)
    (i : Cert.Pre_finite.S192x1x5248.Idx) : max (x i) (-(x i)) ≤ Ideal.ofBits .bf16 0x7F7F#16 := by
  have h1 := Host.reduce_andi_all _ _ _ _ (fun a => a.elim0 : Cert.Pre_finite.S_.Idx) (congrFun h _) i
  have h2 : BitVec.ofBool (decide (max (x i) (-(x i)) ≤ Ideal.ofBits .bf16 0x7F7F#16)) = 1#1 := h1
  by_contra hn
  rw [decide_eq_false hn] at h2
  exact absurd h2 (by decide)

/-! ## The results -/

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The kernel's argument's row of group `g` is the reference's. -/
theorem row_eq (h0 : m' (c.tc.loc ReferenceIdeal.main_arg0) = m (c.tc.loc KernelIdeal.main_arg0)) (r : Fin 192) (g : Fin 41) :
    ReferenceIdeal.Exact.row m' c r g = Body.rowOf (KernelIdeal.Exact.xArr m c) r g :=
  funext fun l => (congrFun h0 _).trans (KernelIdeal.Exact.xArr_apply m c r (Body.colOf g l)).symm

/-- A row's magnitude is in the range in which the two scales agree. -/
theorem scale_eq (hf : Pre_KernelIdeal_finite m) (r : Fin 192) (g : Fin 41) :
    Scale.kScale (Scale.mag (Body.rowOf (KernelIdeal.Exact.xArr m c) r g))
      = Ideal.exp2 (Scale.rExp (Scale.mag (Body.rowOf (KernelIdeal.Exact.xArr m c) r g)))
    ∧ Scale.kInv (Scale.mag (Body.rowOf (KernelIdeal.Exact.xArr m c) r g))
      = Ideal.exp2 (Ideal.ofBits .f32 0x00000000#32 - Scale.rExp (Scale.mag (Body.rowOf (KernelIdeal.Exact.xArr m c) r g))) := by
  have hb : Scale.amax (Body.rowOf (KernelIdeal.Exact.xArr m c) r g) ≤ Ideal.ofBits .bf16 0x7F7F#16 :=
    Scale.amax_le _ _ fun l => by
      have h := finite_apply _ _ _ (hf c) (ix3 r (0 : Fin 1) (Body.colOf g l))
      have e := KernelIdeal.Exact.xArr_apply m c r (Body.colOf g l)
      show max (KernelIdeal.Exact.xArr m c (ix2 r (Body.colOf g l)) : EReal)
        (-(KernelIdeal.Exact.xArr m c (ix2 r (Body.colOf g l)) : EReal)) ≤ _
      rw [e]
      exact h
  exact ⟨Scale.kScale_of_range _ (Scale.amax_nonneg _) hb, Scale.kInv_of_range _ (Scale.amax_nonneg _) hb⟩

/-- An index of a three-axis shape whose middle axis is one wide. -/
theorem mid_one {a b : Nat} (i : (⟨3, ![a, 1, b]⟩ : Shape).Idx) : i = ix3 (i 0) (0 : Fin 1) (i 2) := by
  funext k
  match k with
  | ⟨0, _⟩ => rfl
  | ⟨1, _⟩ => exact Fin.ext (by have := (i 1).isLt; show (i 1).val = 0; exact Nat.lt_one_iff.1 this)
  | ⟨2, _⟩ => rfl

/-- A column by its group and its lane. -/
theorem col_split (j : Fin 5248) : ∃ (g : Fin 41) (l : Fin 128), j = Body.colOf g l :=
  ⟨⟨j.val / 128, by omega⟩, ⟨j.val % 128, Nat.mod_lt _ (by omega)⟩, Fin.ext (by
    show j.val = 128 * (j.val / 128) + j.val % 128; omega)⟩

abbrev refTail (b : Ref ReferenceIdeal.sig .tc) :=
  Pipeline.afterTail₀ ReferenceIdeal.cfgs (ReferenceIdeal.Gen.dats m') 0 (ReferenceIdeal.Gen.V0 m')
    [ReferenceIdeal.Gen.hostOps1] c b

theorem scales_agree (h0 : m' (c.tc.loc ReferenceIdeal.main_arg0) = m (c.tc.loc KernelIdeal.main_arg0))
    (hf : Pre_KernelIdeal_finite m) :
    shapeCast KernelIdeal.S192x1x41 (Body.scalesT (KernelIdeal.Exact.xArr m c)) KernelIdeal.Gen.shapeCasts_S192x41_S192x1x41
    = refTail m' c ReferenceIdeal.main_v10 := by
  funext i
  obtain ⟨r, g, rfl⟩ : ∃ (r : Fin 192) (g : Fin 41), i = ix3 r (0 : Fin 1) g := ⟨i 0, i 2, mid_one i⟩
  refine (shapeCast_apply (s := KernelIdeal.S192x41) (t := KernelIdeal.S192x1x41) _ _ (ix3 r (0 : Fin 1) g) (ix2 r g) ?_).trans ?_
  · rw [Shape.rowMajor_val_two, Shape.rowMajor_val_three]
    show r.val * 41 + g.val = (r.val * 1 + 0) * 41 + g.val
    omega
  refine ((Body.scalesT_apply _ r g).trans (scale_eq m c hf r g).1).trans ?_
  rw [← row_eq m m' c h0]
  exact (ReferenceIdeal.Exact.scale_apply m' c r g).symm

theorem codes_agree (h0 : m' (c.tc.loc ReferenceIdeal.main_arg0) = m (c.tc.loc KernelIdeal.main_arg0))
    (hf : Pre_KernelIdeal_finite m) :
    shapeCast KernelIdeal.S192x1x5248 (Body.codesT (KernelIdeal.Exact.xArr m c)) KernelIdeal.Gen.shapeCasts_S192x5248_S192x1x5248
    = refTail m' c ReferenceIdeal.main_v8 := by
  funext i
  obtain ⟨r, j, rfl⟩ : ∃ (r : Fin 192) (j : Fin 5248), i = ix3 r (0 : Fin 1) j := ⟨i 0, i 2, mid_one i⟩
  obtain ⟨g, l, rfl⟩ := col_split j
  refine (shapeCast_apply (s := KernelIdeal.S192x5248) (t := KernelIdeal.S192x1x5248) _ _ (ix3 r (0 : Fin 1) (Body.colOf g l))
    (ix2 r (Body.colOf g l)) ?_).trans ?_
  · rw [Shape.rowMajor_val_two, Shape.rowMajor_val_three]
    show r.val * 5248 + (Body.colOf g l).val = (r.val * 1 + 0) * 5248 + (Body.colOf g l).val
    omega
  refine (Body.codesT_apply _ g r l).trans ?_
  refine (congrArg (Scale.code (Body.rowOf (KernelIdeal.Exact.xArr m c) r g l)) (scale_eq m c hf r g).2).trans ?_
  rw [← row_eq m m' c h0]
  exact (ReferenceIdeal.Exact.code_apply m' c r g l).symm

theorem y_agree (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (hf : Pre_KernelIdeal_finite m) :
    shapeCast KernelIdeal.S192x1x2432 (KernelIdeal.Exact.yArr m c) KernelIdeal.Gen.shapeCasts_S192x2432_S192x1x2432
    = refTail m' c ReferenceIdeal.main_v6 := by
  funext i
  obtain ⟨r, j, rfl⟩ : ∃ (r : Fin 192) (j : Fin 2432), i = ix3 r (0 : Fin 1) j := ⟨i 0, i 2, mid_one i⟩
  refine (shapeCast_apply (s := KernelIdeal.S192x2432) (t := KernelIdeal.S192x1x2432) _ _ (ix3 r (0 : Fin 1) j) (ix2 r j) ?_).trans ?_
  · rw [Shape.rowMajor_val_two, Shape.rowMajor_val_three]
    show r.val * 2432 + j.val = (r.val * 1 + 0) * 2432 + j.val
    omega
  refine Eq.trans ?_ (ReferenceIdeal.Exact.y_apply m' c r j).symm
  show Body.yEntry (KernelIdeal.Exact.xArr m c) (KernelIdeal.Exact.wArr m c) (KernelIdeal.Exact.sArr m c) r j = _
  rw [KernelIdeal.Exact.wArr_eq, KernelIdeal.Exact.sArr_eq, ← h1, ← h2]
  unfold Body.yEntry
  refine Finset.sum_congr rfl fun g _ => ?_
  rw [(scale_eq m c hf r g).1, (scale_eq m c hf r g).2, ← row_eq m m' c h0]
  rfl

end

/-- The value claim. -/
theorem algebraic : Cert.algebraic_KernelIdeal_ReferenceIdeal_pre_finite := by
  intro m g m' g' hf ha
  refine ⟨fun c => shapeCast KernelIdeal.S192x1x2432 (KernelIdeal.Exact.yArr m c) KernelIdeal.Gen.shapeCasts_S192x2432_S192x1x2432,
    fun c => shapeCast KernelIdeal.S192x1x5248 (Body.codesT (KernelIdeal.Exact.xArr m c)) KernelIdeal.Gen.shapeCasts_S192x5248_S192x1x5248,
    fun c => shapeCast KernelIdeal.S192x1x41 (Body.scalesT (KernelIdeal.Exact.xArr m c)) KernelIdeal.Gen.shapeCasts_S192x41_S192x1x41,
    (θ_run _ _ _).mono (fun _ h => h.1) (KernelIdeal.Exact.run m g),
    (θ_run _ _ _).mono (fun _ h c => ?_) (ReferenceIdeal.Exact.run m' g')⟩
  obtain ⟨e0, e1, e2, e3⟩ := h c
  obtain ⟨a0, a1, a2⟩ := ha c
  exact ⟨e0.trans (y_agree m m' c a0 a1 a2 hf).symm, e1.trans (codes_agree m m' c a0 hf).symm,
    e2.trans (scales_agree m m' c a0 hf).symm, e3⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.FrameKernel
public import proofs.«01_k».proof.Proof.FrameIdeal
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m g _ => Cert.Kernel.Run.run m g,
  fun m g _ => Cert.KernelIdeal.Run.run m g,
  fun m g _ => Cert.KernelIdeal.Run.run m g,
  fun m g _ => Cert.ReferenceIdeal.Gen.frame m g,
  fun m g _ => Cert.ReferenceIdeal.Gen.frame m g,
  trivial,
  Cert.Agree.algebraic⟩

end Cert.Proof

end
